-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_eps" .f32 0x41A00000#32 ((268435456 / 13421773 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x3 : Shape := ⟨3, ![8, 1024, 3]⟩
abbrev S_ : Shape := ⟨0, ![]⟩

class Facts : Prop where
  bcast_S_S8x1024x3 : S_.BroadcastsInDim S8x1024x3 (![] : Fin 0 → Fin S8x1024x3.rank)
  reducesTo_S8x1024x3_S_d0_1_2 : S8x1024x3.ReducesTo [0, 1, 2] S_
  h_S_ : 0 < S_.numel

variable [Facts]

def fn {F : FTy → Type} [FloatOps F] (main_arg0 : FVec F S8x1024x3 .f32) (main_arg1 : FVec F S8x1024x3 .f32) : IVec S_ 1 :=
  let main_v0 : FVec F S8x1024x3 .f32 := Host.absf main_arg0
  let main_cst : FVec F S_ .f32 := constant S_ .f32 0x7F800000#32
  let main_v1 : FVec F S8x1024x3 .f32 := broadcastInDim S8x1024x3 ![] bcast_S_S8x1024x3 main_cst
  let main_v2 : IVec S8x1024x3 1 := cmpf .olt main_v0 main_v1
  let main_c : IVec S_ 1 := constantI S_ 1 1#1
  let main_v3 : IVec S_ 1 := (fun x v => Host.reduce IntOp.andi x v reducesTo_S8x1024x3_S_d0_1_2 h_S_) main_v2 main_c
  let main_v4 : FVec F S8x1024x3 .f32 := Host.absf main_arg1
  let main_cst_0 : FVec F S_ .f32 := constant S_ .f32 0x7F800000#32
  let main_v5 : FVec F S8x1024x3 .f32 := broadcastInDim S8x1024x3 ![] bcast_S_S8x1024x3 main_cst_0
  let main_v6 : IVec S8x1024x3 1 := cmpf .olt main_v4 main_v5
  let main_c_1 : IVec S_ 1 := constantI S_ 1 1#1
  let main_v7 : IVec S_ 1 := (fun x v => Host.reduce IntOp.andi x v reducesTo_S8x1024x3_S_d0_1_2 h_S_) main_v6 main_c_1
  let main_v8 : IVec S_ 1 := andi main_v3 main_v7
  main_v8
-- ==== Kernel.lean ====
abbrev S8x1024x3 : Shape := ⟨3, ![8, 1024, 3]⟩
abbrev S8x3x1024 : Shape := ⟨3, ![8, 3, 1024]⟩
abbrev S1x1x128 : Shape := ⟨3, ![1, 1, 128]⟩
abbrev S1x1024x3 : Shape := ⟨3, ![1, 1024, 3]⟩
abbrev S1x3x1024 : Shape := ⟨3, ![1, 3, 1024]⟩
abbrev S1024x3 : Shape := ⟨2, ![1024, 3]⟩
abbrev S3x1024 : Shape := ⟨2, ![3, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1x1024x1 : Shape := ⟨3, ![1, 1024, 1]⟩
abbrev S1 : Shape := ⟨1, ![1]⟩
abbrev S1x1x1 : Shape := ⟨3, ![1, 1, 1]⟩
abbrev S1x1x1024 : Shape := ⟨3, ![1, 1, 1024]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S8x1024x3, .f32⟩
  | .hbm, ⟨1, _⟩ => ⟨S8x1024x3, .f32⟩
  | .hbm, ⟨2, _⟩ => ⟨S8x3x1024, .f32⟩
  | .hbm, ⟨3, _⟩ => ⟨S1x1x128, .f32⟩
  | .hbm, ⟨4, _⟩ => ⟨S1x1x1, .f32⟩
  | .hbm, ⟨5, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x128, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v140 : BitVec 1 := Scalar.cmpi .eq arg0 c0_i32
  let v141 : BitVec 32 := Scalar.extui v140
  let c0_i32_52 : BitVec 32 := 0#32
  let v142 : BitVec 1 := Scalar.cmpi .ne v141 c0_i32_52
  v142

def k0_cond2 (i : grid0.Coords) : BitVec 1 :=
  let arg0 : BitVec 32 := BitVec.ofNat 32 (i 0).val
  let c0_i32_53 : BitVec 32 := 0#32
  let v143 : BitVec 1 := Scalar.cmpi .ne arg0 c0_i32_53
  let v144 : BitVec 32 := Scalar.extui v143
  let c0_i32_54 : BitVec 32 := 0#32
  let v145 : BitVec 1 := Scalar.cmpi .ne v144 c0_i32_54
  v145

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "inv_eps" => some ((268435456 / 13421773 : ℝ) : EReal)
  | _ => none
-- ==== ReferenceIdeal.lean ====
abbrev S8x1024x3 : Shape := ⟨3, ![8, 1024, 3]⟩
abbrev S_ : Shape := ⟨0, ![]⟩
abbrev S8x1024 : Shape := ⟨2, ![8, 1024]⟩
abbrev S8x1024x1 : Shape := ⟨3, ![8, 1024, 1]⟩
abbrev S8x1x1024 : Shape := ⟨3, ![8, 1, 1024]⟩
abbrev S8x1024x1024 : Shape := ⟨3, ![8, 1024, 1024]⟩
abbrev S8x3x1024 : Shape := ⟨3, ![8, 3, 1024]⟩
abbrev S8 : Shape := ⟨1, ![8]⟩
abbrev S1024 : Shape := ⟨1, ![1024]⟩
abbrev S1x1024 : Shape := ⟨2, ![1, 1024]⟩
abbrev S1x1x1024 : Shape := ⟨3, ![1, 1, 1024]⟩
abbrev S1024x1 : Shape := ⟨2, ![1024, 1]⟩

abbrev nBuf : Space → Nat
  | .hbm => 434
  | .vmem => 0
  | .smem => 0
  | _ => 0

abbrev hbmTy0_0 (i : Nat) : BufTy := match i % 128 with
  | 0 => ⟨S8x1024x3, .f32⟩
  | 1 => ⟨S8x1024x3, .f32⟩
  | 2 => ⟨S8x1024x3, .f32⟩
  | 3 => ⟨S_, .f32⟩
  | 4 => ⟨S8x1024, .f32⟩
  | 5 => ⟨S8x1024x1, .f32⟩
  | 6 => ⟨S8x1024x3, .f32⟩
  | 7 => ⟨S_, .f32⟩
  | 8 => ⟨S8x1024, .f32⟩
  | 9 => ⟨S8x1x1024, .f32⟩
  | 10 => ⟨S8x1024x1024, .f32⟩
  | 11 => ⟨S8x1024x1024, .f32⟩
  | 12 => ⟨S8x1024x1024, .f32⟩
  | 13 => ⟨S8x3x1024, .f32⟩
  | 14 => ⟨S8x1024x1024, .f32⟩
  | 15 => ⟨S_, .f32⟩
  | 16 => ⟨S8x1024x1024, .f32⟩
  | 17 => ⟨S8x1024x1024, .f32⟩
  | 18 => ⟨S8x1024x1024, .f32⟩
  | 19 => ⟨S_, .f32⟩
  | 20 => ⟨S8x1024x1024, .f32⟩
  | 21 => ⟨S8x1024x1024, .f32⟩
  | 22 => ⟨S_, .f32⟩
  | 23 => ⟨S8x1024, .f32⟩
  | 24 => ⟨S_, .f32⟩
  | 25 => ⟨S8x1024, .f32⟩
  | 26 => ⟨S_, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S8, .f32⟩
  | 40 => ⟨S_, .f32⟩
  | 41 => ⟨S_, .f32⟩
  | 42 => ⟨S8x1024x3, .f32⟩
  | 43 => ⟨S_, .f32⟩
  | 44 => ⟨S8x1024, .f32⟩
  | 45 => ⟨S8x1024x1, .f32⟩
  | 46 => ⟨S8x1024x3, .f32⟩
  | 47 => ⟨S_, .f32⟩
  | 48 => ⟨S8x1024, .f32⟩
  | 49 => ⟨S8x1x1024, .f32⟩
  | 50 => ⟨S8x1024x1024, .f32⟩
  | 51 => ⟨S8x1024x1024, .f32⟩
  | 52 => ⟨S8x1024x1024, .f32⟩
  | 53 => ⟨S8x3x1024, .f32⟩
  | 54 => ⟨S8x1024x1024, .f32⟩
  | 55 => ⟨S_, .f32⟩
  | 56 => ⟨S8x1024x1024, .f32⟩
  | 57 => ⟨S8x1024x1024, .f32⟩
  | 58 => ⟨S8x1024x1024, .f32⟩
  | 59 => ⟨S_, .f32⟩
  | 60 => ⟨S8x1024x1024, .f32⟩
  | 61 => ⟨S8x1024x1024, .f32⟩
  | 62 => ⟨S_, .f32⟩
  | 63 => ⟨S_, .f32⟩
  | 64 => ⟨S_, .f32⟩
  | 65 => ⟨S1024, .f32⟩
  | 66 => ⟨S_, .f32⟩
  | 67 => ⟨S_, .f32⟩
  | 68 => ⟨S_, .f32⟩
  | 69 => ⟨S1024, .f32⟩
  | 70 => ⟨S_, .f32⟩
  | 71 => ⟨S1024, .f32⟩
  | 72 => ⟨S_, .f32⟩
  | 73 => ⟨S1024, .f32⟩
  | 74 => ⟨S1x1024, .f32⟩
  | 75 => ⟨S1x1x1024, .f32⟩
  | 76 => ⟨S8x1024x1024, .f32⟩
  | 77 => ⟨S8x1024x1024, .f32⟩
  | 78 => ⟨S_, .f32⟩
  | 79 => ⟨S8x1024x1024, .f32⟩
  | 80 => ⟨S8x1024x1024, .f32⟩
  | 81 => ⟨S_, .f32⟩
  | 82 => ⟨S8x1024, .f32⟩
  | 83 => ⟨S8x1024x1, .f32⟩
  | 84 => ⟨S8x1024x1, .f32⟩
  | 85 => ⟨S_, .f32⟩
  | 86 => ⟨S8x1024x1, .f32⟩
  | 87 => ⟨S8x1024x1, .i1⟩
  | 88 => ⟨S_, .f32⟩
  | 89 => ⟨S_, .f32⟩
  | 90 => ⟨S1024x1, .f32⟩
  | 91 => ⟨S8x1024x1, .f32⟩
  | 92 => ⟨S8x1024x1, .f32⟩
  | 93 => ⟨S8x1024x1024, .f32⟩
  | 94 => ⟨S8x1024x1024, .f32⟩
  | 95 => ⟨S8x1024x1024, .f32⟩
  | 96 => ⟨S_, .f32⟩
  | 97 => ⟨S8x1024, .f32⟩
  | 98 => ⟨S8x1024, .f32⟩
  | 99 => ⟨S8x1024, .f32⟩
  | 100 => ⟨S8x1024, .f32⟩
  | 101 => ⟨S8x1024, .f32⟩
  | 102 => ⟨S1024, .f32⟩
  | 103 => ⟨S1x1024, .f32⟩
  | 104 => ⟨S8x1024, .f32⟩
  | 105 => ⟨S8x1024, .f32⟩
  | 106 => ⟨S_, .f32⟩
  | 107 => ⟨S8x1024, .f32⟩
  | 108 => ⟨S8x1024, .f32⟩
  | 109 => ⟨S8x1024x1, .f32⟩
  | 110 => ⟨S8x1024x1024, .f32⟩
  | 111 => ⟨S8x1024x1024, .f32⟩
  | 112 => ⟨S_, .f32⟩
  | 113 => ⟨S8x1024x1024, .f32⟩
  | 114 => ⟨S8x1024x1024, .f32⟩
  | 115 => ⟨S_, .f32⟩
  | 116 => ⟨S8x1024, .f32⟩
  | 117 => ⟨S8x1x1024, .f32⟩
  | 118 => ⟨S8x1x1024, .f32⟩
  | 119 => ⟨S_, .f32⟩
  | 120 => ⟨S8x1x1024, .f32⟩
  | 121 => ⟨S8x1x1024, .i1⟩
  | 122 => ⟨S_, .f32⟩
  | 123 => ⟨S_, .f32⟩
  | 124 => ⟨S1x1024, .f32⟩
  | 125 => ⟨S8x1x1024, .f32⟩
  | 126 => ⟨S8x1x1024, .f32⟩
  | 127 => ⟨S8x1024x1024, .f32⟩
  | _ => ⟨S8x1024x3, .f32⟩

abbrev hbmTy0_1 (i : Nat) : BufTy := match i % 128 with
  | 0 => ⟨S8x1024x1024, .f32⟩
  | 1 => ⟨S8x1024x1024, .f32⟩
  | 2 => ⟨S_, .f32⟩
  | 3 => ⟨S8x1024, .f32⟩
  | 4 => ⟨S8x1024, .f32⟩
  | 5 => ⟨S8x1024, .f32⟩
  | 6 => ⟨S8x1024, .f32⟩
  | 7 => ⟨S8x1024, .f32⟩
  | 8 => ⟨S1024, .f32⟩
  | 9 => ⟨S1x1024, .f32⟩
  | 10 => ⟨S8x1024, .f32⟩
  | 11 => ⟨S8x1024, .f32⟩
  | 12 => ⟨S_, .f32⟩
  | 13 => ⟨S8x1024, .f32⟩
  | 14 => ⟨S8x1024, .f32⟩
  | 15 => ⟨S8x1x1024, .f32⟩
  | 16 => ⟨S8x1024x1024, .f32⟩
  | 17 => ⟨S8x1024x1024, .f32⟩
  | 18 => ⟨S_, .f32⟩
  | 19 => ⟨S8x1024x1024, .f32⟩
  | 20 => ⟨S8x1024x1024, .f32⟩
  | 21 => ⟨S_, .f32⟩
  | 22 => ⟨S8x1024, .f32⟩
  | 23 => ⟨S8x1024x1, .f32⟩
  | 24 => ⟨S8x1024x1, .f32⟩
  | 25 => ⟨S_, .f32⟩
  | 26 => ⟨S8x1024x1, .f32⟩
  | 27 => ⟨S8x1024x1, .i1⟩
  | 28 => ⟨S_, .f32⟩
  | 29 => ⟨S_, .f32⟩
  | 30 => ⟨S1024x1, .f32⟩
  | 31 => ⟨S8x1024x1, .f32⟩
  | 32 => ⟨S8x1024x1, .f32⟩
  | 33 => ⟨S8x1024x1024, .f32⟩
  | 34 => ⟨S8x1024x1024, .f32⟩
  | 35 => ⟨S8x1024x1024, .f32⟩
  | 36 => ⟨S_, .f32⟩
  | 37 => ⟨S8x1024, .f32⟩
  | 38 => ⟨S8x1024, .f32⟩
  | 39 => ⟨S8x1024, .f32⟩
  | 40 => ⟨S8x1024, .f32⟩
  | 41 => ⟨S8x1024, .f32⟩
  | 42 => ⟨S1024, .f32⟩
  | 43 => ⟨S1x1024, .f32⟩
  | 44 => ⟨S8x1024, .f32⟩
  | 45 => ⟨S8x1024, .f32⟩
  | 46 => ⟨S_, .f32⟩
  | 47 => ⟨S8x1024, .f32⟩
  | 48 => ⟨S8x1024, .f32⟩
  | 49 => ⟨S8x1024x1, .f32⟩
  | 50 => ⟨S8x1024x1024, .f32⟩
  | 51 => ⟨S8x1024x1024, .f32⟩
  | 52 => ⟨S_, .f32⟩
  | 53 => ⟨S8x1024x1024, .f32⟩
  | 54 => ⟨S8x1024x1024, .f32⟩
  | 55 => ⟨S_, .f32⟩
  | 56 => ⟨S8x1024, .f32⟩
  | 57 => ⟨S8x1x1024, .f32⟩
  | 58 => ⟨S8x1x1024, .f32⟩
  | 59 => ⟨S_, .f32⟩
  | 60 => ⟨S8x1x1024, .f32⟩
  | 61 => ⟨S8x1x1024, .i1⟩
  | 62 => ⟨S_, .f32⟩
  | 63 => ⟨S_, .f32⟩
  | 64 => ⟨S1x1024, .f32⟩
  | 65 => ⟨S8x1x1024, .f32⟩
  | 66 => ⟨S8x1x1024, .f32⟩
  | 67 => ⟨S8x1024x1024, .f32⟩
  | 68 => ⟨S8x1024x1024, .f32⟩
  | 69 => ⟨S8x1024x1024, .f32⟩
  | 70 => ⟨S_, .f32⟩
  | 71 => ⟨S8x1024, .f32⟩
  | 72 => ⟨S8x1024, .f32⟩
  | 73 => ⟨S8x1024, .f32⟩
  | 74 => ⟨S8x1024, .f32⟩
  | 75 => ⟨S8x1024, .f32⟩
  | 76 => ⟨S1024, .f32⟩
  | 77 => ⟨S1x1024, .f32⟩
  | 78 => ⟨S8x1024, .f32⟩
  | 79 => ⟨S8x1024, .f32⟩
  | 80 => ⟨S_, .f32⟩
  | 81 => ⟨S8x1024, .f32⟩
  | 82 => ⟨S8x1024, .f32⟩
  | 83 => ⟨S8x1x1024, .f32⟩
  | 84 => ⟨S8x1024x1024, .f32⟩
  | 85 => ⟨S8x1024x1024, .f32⟩
  | 86 => ⟨S_, .f32⟩
  | 87 => ⟨S8x1024x1024, .f32⟩
  | 88 => ⟨S8x1024x1024, .f32⟩
  | 89 => ⟨S_, .f32⟩
  | 90 => ⟨S8x1024, .f32⟩
  | 91 => ⟨S8x1024x1, .f32⟩
  | 92 => ⟨S8x1024x1, .f32⟩
  | 93 => ⟨S_, .f32⟩
  | 94 => ⟨S8x1024x1, .f32⟩
  | 95 => ⟨S8x1024x1, .i1⟩
  | 96 => ⟨S_, .f32⟩
  | 97 => ⟨S_, .f32⟩
  | 98 => ⟨S1024x1, .f32⟩
  | 99 => ⟨S8x1024x1, .f32⟩
  | 100 => ⟨S8x1024x1, .f32⟩
  | 101 => ⟨S8x1024x1024, .f32⟩
  | 102 => ⟨S8x1024x1024, .f32⟩
  | 103 => ⟨S8x1024x1024, .f32⟩
  | 104 => ⟨S_, .f32⟩
  | 105 => ⟨S8x1024, .f32⟩
  | 106 => ⟨S8x1024, .f32⟩
  | 107 => ⟨S8x1024, .f32⟩
  | 108 => ⟨S8x1024, .f32⟩
  | 109 => ⟨S8x1024, .f32⟩
  | 110 => ⟨S1024, .f32⟩
  | 111 => ⟨S1x1024, .f32⟩
  | 112 => ⟨S8x1024, .f32⟩
  | 113 => ⟨S8x1024, .f32⟩
  | 114 => ⟨S_, .f32⟩
  | 115 => ⟨S8x1024, .f32⟩
  | 116 => ⟨S8x1024, .f32⟩
  | 117 => ⟨S8x1024x1, .f32⟩
  | 118 => ⟨S8x1024x1024, .f32⟩
  | 119 => ⟨S8x1024x1024, .f32⟩
  | 120 => ⟨S_, .f32⟩
  | 121 => ⟨S8x1024x1024, .f32⟩
  | 122 => ⟨S8x1024x1024, .f32⟩
  | 123 => ⟨S_, .f32⟩
  | 124 => ⟨S8x1024, .f32⟩
  | 125 => ⟨S8x1x1024, .f32⟩
  | 126 => ⟨S8x1x1024, .f32⟩
  | 127 => ⟨S_, .f32⟩
  | _ => ⟨S8x1024x3, .f32⟩

abbrev hbmTy0_2 (i : Nat) : BufTy := match i % 128 with
  | 0 => ⟨S8x1x1024, .f32⟩
  | 1 => ⟨S8x1x1024, .i1⟩
  | 2 => ⟨S_, .f32⟩
  | 3 => ⟨S_, .f32⟩
  | 4 => ⟨S1x1024, .f32⟩
  | 5 => ⟨S8x1x1024, .f32⟩
  | 6 => ⟨S8x1x1024, .f32⟩
  | 7 => ⟨S8x1024x1024, .f32⟩
  | 8 => ⟨S8x1024x1024, .f32⟩
  | 9 => ⟨S8x1024x1024, .f32⟩
  | 10 => ⟨S_, .f32⟩
  | 11 => ⟨S8x1024, .f32⟩
  | 12 => ⟨S8x1024, .f32⟩
  | 13 => ⟨S8x1024, .f32⟩
  | 14 => ⟨S8x1024, .f32⟩
  | 15 => ⟨S8x1024, .f32⟩
  | 16 => ⟨S1024, .f32⟩
  | 17 => ⟨S1x1024, .f32⟩
  | 18 => ⟨S8x1024, .f32⟩
  | 19 => ⟨S8x1024, .f32⟩
  | 20 => ⟨S_, .f32⟩
  | 21 => ⟨S8x1024, .f32⟩
  | 22 => ⟨S8x1024, .f32⟩
  | 23 => ⟨S8x1x1024, .f32⟩
  | 24 => ⟨S8x1024x1024, .f32⟩
  | 25 => ⟨S8x1024x1024, .f32⟩
  | 26 => ⟨S_, .f32⟩
  | 27 => ⟨S8x1024x1024, .f32⟩
  | 28 => ⟨S8x1024x1024, .f32⟩
  | 29 => ⟨S_, .f32⟩
  | 30 => ⟨S8x1024, .f32⟩
  | 31 => ⟨S8x1024x1, .f32⟩
  | 32 => ⟨S8x1024x1, .f32⟩
  | 33 => ⟨S_, .f32⟩
  | 34 => ⟨S8x1024x1, .f32⟩
  | 35 => ⟨S8x1024x1, .i1⟩
  | 36 => ⟨S_, .f32⟩
  | 37 => ⟨S_, .f32⟩
  | 38 => ⟨S1024x1, .f32⟩
  | 39 => ⟨S8x1024x1, .f32⟩
  | 40 => ⟨S8x1024x1, .f32⟩
  | 41 => ⟨S8x1024x1024, .f32⟩
  | 42 => ⟨S8x1024x1024, .f32⟩
  | 43 => ⟨S8x1024x1024, .f32⟩
  | 44 => ⟨S_, .f32⟩
  | 45 => ⟨S8x1024, .f32⟩
  | 46 => ⟨S8x1024, .f32⟩
  | 47 => ⟨S8x1024, .f32⟩
  | 48 => ⟨S8x1024, .f32⟩
  | 49 => ⟨S8x1024, .f32⟩
  | 50 => ⟨S1024, .f32⟩
  | 51 => ⟨S1x1024, .f32⟩
  | 52 => ⟨S8x1024, .f32⟩
  | 53 => ⟨S8x1024, .f32⟩
  | 54 => ⟨S_, .f32⟩
  | 55 => ⟨S8x1024, .f32⟩
  | 56 => ⟨S8x1024, .f32⟩
  | 57 => ⟨S8x1024x1, .f32⟩
  | 58 => ⟨S8x1024x1024, .f32⟩
  | 59 => ⟨S8x1024x1024, .f32⟩
  | 60 => ⟨S_, .f32⟩
  | 61 => ⟨S8x1024x1024, .f32⟩
  | 62 => ⟨S8x1024x1024, .f32⟩
  | 63 => ⟨S_, .f32⟩
  | 64 => ⟨S8x1024, .f32⟩
  | 65 => ⟨S8x1x1024, .f32⟩
  | 66 => ⟨S8x1x1024, .f32⟩
  | 67 => ⟨S_, .f32⟩
  | 68 => ⟨S8x1x1024, .f32⟩
  | 69 => ⟨S8x1x1024, .i1⟩
  | 70 => ⟨S_, .f32⟩
  | 71 => ⟨S_, .f32⟩
  | 72 => ⟨S1x1024, .f32⟩
  | 73 => ⟨S8x1x1024, .f32⟩
  | 74 => ⟨S8x1x1024, .f32⟩
  | 75 => ⟨S8x1024x1024, .f32⟩
  | 76 => ⟨S8x1024x1024, .f32⟩
  | 77 => ⟨S8x1024x1024, .f32⟩
  | 78 => ⟨S_, .f32⟩
  | 79 => ⟨S8x1024, .f32⟩
  | 80 => ⟨S8x1024, .f32⟩
  | 81 => ⟨S8x1024, .f32⟩
  | 82 => ⟨S8x1024, .f32⟩
  | 83 => ⟨S8x1024, .f32⟩
  | 84 => ⟨S1024, .f32⟩
  | 85 => ⟨S1x1024, .f32⟩
  | 86 => ⟨S8x1024, .f32⟩
  | 87 => ⟨S8x1024, .f32⟩
  | 88 => ⟨S_, .f32⟩
  | 89 => ⟨S8x1024, .f32⟩
  | 90 => ⟨S8x1024, .f32⟩
  | 91 => ⟨S8x1x1024, .f32⟩
  | 92 => ⟨S8x1024x1024, .f32⟩
  | 93 => ⟨S8x1024x1024, .f32⟩
  | 94 => ⟨S_, .f32⟩
  | 95 => ⟨S8x1024x1024, .f32⟩
  | 96 => ⟨S8x1024x1024, .f32⟩
  | 97 => ⟨S_, .f32⟩
  | 98 => ⟨S8x1024, .f32⟩
  | 99 => ⟨S8x1024x1, .f32⟩
  | 100 => ⟨S8x1024x1, .f32⟩
  | 101 => ⟨S_, .f32⟩
  | 102 => ⟨S8x1024x1, .f32⟩
  | 103 => ⟨S8x1024x1, .i1⟩
  | 104 => ⟨S_, .f32⟩
  | 105 => ⟨S_, .f32⟩
  | 106 => ⟨S1024x1, .f32⟩
  | 107 => ⟨S8x1024x1, .f32⟩
  | 108 => ⟨S8x1024x1, .f32⟩
  | 109 => ⟨S8x1024x1024, .f32⟩
  | 110 => ⟨S8x1024x1024, .f32⟩
  | 111 => ⟨S8x1024x1024, .f32⟩
  | 112 => ⟨S_, .f32⟩
  | 113 => ⟨S8x1024, .f32⟩
  | 114 => ⟨S8x1024, .f32⟩
  | 115 => ⟨S8x1024, .f32⟩
  | 116 => ⟨S8x1024, .f32⟩
  | 117 => ⟨S8x1024, .f32⟩
  | 118 => ⟨S1024, .f32⟩
  | 119 => ⟨S1x1024, .f32⟩
  | 120 => ⟨S8x1024, .f32⟩
  | 121 => ⟨S8x1024, .f32⟩
  | 122 => ⟨S_, .f32⟩
  | 123 => ⟨S8x1024, .f32⟩
  | 124 => ⟨S8x1024, .f32⟩
  | 125 => ⟨S8x1024x1, .f32⟩
  | 126 => ⟨S8x1024x1024, .f32⟩
  | 127 => ⟨S8x1024x1024, .f32⟩
  | _ => ⟨S8x1024x3, .f32⟩

abbrev hbmTy0_3 (i : Nat) : BufTy := match i % 128 with
  | 0 => ⟨S_, .f32⟩
  | 1 => ⟨S8x1024x1024, .f32⟩
  | 2 => ⟨S8x1024x1024, .f32⟩
  | 3 => ⟨S_, .f32⟩
  | 4 => ⟨S8x1024, .f32⟩
  | 5 => ⟨S8x1x1024, .f32⟩
  | 6 => ⟨S8x1x1024, .f32⟩
  | 7 => ⟨S_, .f32⟩
  | 8 => ⟨S8x1x1024, .f32⟩
  | 9 => ⟨S8x1x1024, .i1⟩
  | 10 => ⟨S_, .f32⟩
  | 11 => ⟨S_, .f32⟩
  | 12 => ⟨S1x1024, .f32⟩
  | 13 => ⟨S8x1x1024, .f32⟩
  | 14 => ⟨S8x1x1024, .f32⟩
  | 15 => ⟨S8x1024x1024, .f32⟩
  | 16 => ⟨S8x1024x1024, .f32⟩
  | 17 => ⟨S8x1024x1024, .f32⟩
  | 18 => ⟨S_, .f32⟩
  | 19 => ⟨S8x1024, .f32⟩
  | 20 => ⟨S8x1024, .f32⟩
  | 21 => ⟨S8x1024, .f32⟩
  | 22 => ⟨S8x1024, .f32⟩
  | 23 => ⟨S8x1024, .f32⟩
  | 24 => ⟨S1024, .f32⟩
  | 25 => ⟨S1x1024, .f32⟩
  | 26 => ⟨S8x1024, .f32⟩
  | 27 => ⟨S8x1024, .f32⟩
  | 28 => ⟨S_, .f32⟩
  | 29 => ⟨S8x1024, .f32⟩
  | 30 => ⟨S8x1024, .f32⟩
  | 31 => ⟨S8x1024x1, .f32⟩
  | 32 => ⟨S8x1x1024, .f32⟩
  | 33 => ⟨S8x1024x1024, .f32⟩
  | 34 => ⟨S8x1024x1024, .f32⟩
  | 35 => ⟨S8x1024x1024, .f32⟩
  | 36 => ⟨S8x1024x1024, .f32⟩
  | 37 => ⟨S_, .f32⟩
  | 38 => ⟨S8x1024x1024, .f32⟩
  | 39 => ⟨S8x1024x1024, .f32⟩
  | 40 => ⟨S8x1024x1024, .f32⟩
  | 41 => ⟨S8x1024x1024, .f32⟩
  | 42 => ⟨S_, .f32⟩
  | 43 => ⟨S8, .f32⟩
  | 44 => ⟨S_, .f32⟩
  | 45 => ⟨S8, .f32⟩
  | 46 => ⟨S8, .f32⟩
  | 47 => ⟨S_, .f32⟩
  | 48 => ⟨S_, .f32⟩
  | 49 => ⟨S_, .f32⟩
  | _ => ⟨S8x1024x3, .f32⟩

abbrev hbmTy (i : Nat) : BufTy := match i / 128 with
  | 0 => hbmTy0_0 i
  | 1 => hbmTy0_1 i
  | 2 => hbmTy0_2 i
  | 3 => hbmTy0_3 i
  | _ => ⟨S8x1024x3, .f32⟩

abbrev bufTy : (tb : Table) → Fin (tcTables nBuf tb) → BufTy
  | .hbm, ⟨i, _⟩ => hbmTy i
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_v28 : Ref sig .tc := ⟨.hbm, 42, rfl⟩
abbrev main_cst_11 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_13 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_14 : Ref sig .tc := ⟨.hbm, 59, rfl⟩
abbrev main_v42 : Ref sig .tc := ⟨.hbm, 60, rfl⟩
abbrev main_v43 : Ref sig .tc := ⟨.hbm, 61, rfl⟩
abbrev main_cst_15 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_16 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_17 : Ref sig .tc := ⟨.hbm, 70, rfl⟩
abbrev main_v50 : Ref sig .tc := ⟨.hbm, 71, rfl⟩
abbrev main_cst_18 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_19 : Ref sig .tc := ⟨.hbm, 78, rfl⟩
abbrev main_v56 : Ref sig .tc := ⟨.hbm, 79, rfl⟩
abbrev main_v57 : Ref sig .tc := ⟨.hbm, 80, rfl⟩
abbrev main_cst_20 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_21 : Ref sig .tc := ⟨.hbm, 85, rfl⟩
abbrev main_v61 : Ref sig .tc := ⟨.hbm, 86, rfl⟩
abbrev main_v62 : Ref sig .tc := ⟨.hbm, 87, rfl⟩
abbrev main_cst_22 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_23 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_24 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_25 : Ref sig .tc := ⟨.hbm, 112, rfl⟩
abbrev main_v81 : Ref sig .tc := ⟨.hbm, 113, rfl⟩
abbrev main_v82 : Ref sig .tc := ⟨.hbm, 114, rfl⟩
abbrev main_cst_26 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_27 : Ref sig .tc := ⟨.hbm, 119, rfl⟩
abbrev main_v86 : Ref sig .tc := ⟨.hbm, 120, rfl⟩
abbrev main_v87 : Ref sig .tc := ⟨.hbm, 121, rfl⟩
abbrev main_cst_28 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_29 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_30 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_31 : Ref sig .tc := ⟨.hbm, 146, rfl⟩
abbrev main_v106 : Ref sig .tc := ⟨.hbm, 147, rfl⟩
abbrev main_v107 : Ref sig .tc := ⟨.hbm, 148, rfl⟩
abbrev main_cst_32 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_33 : Ref sig .tc := ⟨.hbm, 153, rfl⟩
abbrev main_v111 : Ref sig .tc := ⟨.hbm, 154, rfl⟩
abbrev main_v112 : Ref sig .tc := ⟨.hbm, 155, rfl⟩
abbrev main_cst_34 : Ref sig .tc := ⟨.hbm, 156, rfl⟩
abbrev main_call2_v0 : Ref sig .tc := ⟨.hbm, 157, rfl⟩
abbrev main_call2_v1 : Ref sig .tc := ⟨.hbm, 158, rfl⟩
abbrev main_call2_v2 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_35 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_36 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_37 : Ref sig .tc := ⟨.hbm, 180, rfl⟩
abbrev main_v131 : Ref sig .tc := ⟨.hbm, 181, rfl⟩
abbrev main_v132 : Ref sig .tc := ⟨.hbm, 182, rfl⟩
abbrev main_cst_38 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_39 : Ref sig .tc := ⟨.hbm, 187, rfl⟩
abbrev main_v136 : Ref sig .tc := ⟨.hbm, 188, rfl⟩
abbrev main_v137 : Ref sig .tc := ⟨.hbm, 189, rfl⟩
abbrev main_cst_40 : Ref sig .tc := ⟨.hbm, 190, rfl⟩
abbrev main_call3_v0 : Ref sig .tc := ⟨.hbm, 191, rfl⟩
abbrev main_call3_v1 : Ref sig .tc := ⟨.hbm, 192, rfl⟩
abbrev main_call3_v2 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_cst_41 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_42 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_43 : Ref sig .tc := ⟨.hbm, 214, rfl⟩
abbrev main_v156 : Ref sig .tc := ⟨.hbm, 215, rfl⟩
abbrev main_v157 : Ref sig .tc := ⟨.hbm, 216, rfl⟩
abbrev main_cst_44 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_45 : Ref sig .tc := ⟨.hbm, 221, rfl⟩
abbrev main_v161 : Ref sig .tc := ⟨.hbm, 222, rfl⟩
abbrev main_v162 : Ref sig .tc := ⟨.hbm, 223, rfl⟩
abbrev main_cst_46 : Ref sig .tc := ⟨.hbm, 224, rfl⟩
abbrev main_call4_v0 : Ref sig .tc := ⟨.hbm, 225, rfl⟩
abbrev main_call4_v1 : Ref sig .tc := ⟨.hbm, 226, rfl⟩
abbrev main_call4_v2 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_cst_47 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_cst_48 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_cst_49 : Ref sig .tc := ⟨.hbm, 248, rfl⟩
abbrev main_v181 : Ref sig .tc := ⟨.hbm, 249, rfl⟩
abbrev main_v182 : Ref sig .tc := ⟨.hbm, 250, rfl⟩
abbrev main_cst_50 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_cst_51 : Ref sig .tc := ⟨.hbm, 255, rfl⟩
abbrev main_v186 : Ref sig .tc := ⟨.hbm, 256, rfl⟩
abbrev main_v187 : Ref sig .tc := ⟨.hbm, 257, rfl⟩
abbrev main_cst_52 : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_cst_53 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_54 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_cst_55 : Ref sig .tc := ⟨.hbm, 282, rfl⟩
abbrev main_v206 : Ref sig .tc := ⟨.hbm, 283, rfl⟩
abbrev main_v207 : Ref sig .tc := ⟨.hbm, 284, rfl⟩
abbrev main_cst_56 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_cst_57 : Ref sig .tc := ⟨.hbm, 289, rfl⟩
abbrev main_v211 : Ref sig .tc := ⟨.hbm, 290, rfl⟩
abbrev main_v212 : Ref sig .tc := ⟨.hbm, 291, rfl⟩
abbrev main_cst_58 : Ref sig .tc := ⟨.hbm, 292, rfl⟩
abbrev main_call6_v0 : Ref sig .tc := ⟨.hbm, 293, rfl⟩
abbrev main_call6_v1 : Ref sig .tc := ⟨.hbm, 294, rfl⟩
abbrev main_call6_v2 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_cst_59 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_cst_60 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_cst_61 : Ref sig .tc := ⟨.hbm, 316, rfl⟩
abbrev main_v231 : Ref sig .tc := ⟨.hbm, 317, rfl⟩
abbrev main_v232 : Ref sig .tc := ⟨.hbm, 318, rfl⟩
abbrev main_cst_62 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_cst_63 : Ref sig .tc := ⟨.hbm, 323, rfl⟩
abbrev main_v236 : Ref sig .tc := ⟨.hbm, 324, rfl⟩
abbrev main_v237 : Ref sig .tc := ⟨.hbm, 325, rfl⟩
abbrev main_cst_64 : Ref sig .tc := ⟨.hbm, 326, rfl⟩
abbrev main_call7_v0 : Ref sig .tc := ⟨.hbm, 327, rfl⟩
abbrev main_call7_v1 : Ref sig .tc := ⟨.hbm, 328, rfl⟩
abbrev main_call7_v2 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_cst_65 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_cst_66 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_cst_67 : Ref sig .tc := ⟨.hbm, 350, rfl⟩
abbrev main_v256 : Ref sig .tc := ⟨.hbm, 351, rfl⟩
abbrev main_v257 : Ref sig .tc := ⟨.hbm, 352, rfl⟩
abbrev main_cst_68 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_cst_69 : Ref sig .tc := ⟨.hbm, 357, rfl⟩
abbrev main_v261 : Ref sig .tc := ⟨.hbm, 358, rfl⟩
abbrev main_v262 : Ref sig .tc := ⟨.hbm, 359, rfl⟩
abbrev main_cst_70 : Ref sig .tc := ⟨.hbm, 360, rfl⟩
abbrev main_call8_v0 : Ref sig .tc := ⟨.hbm, 361, rfl⟩
abbrev main_call8_v1 : Ref sig .tc := ⟨.hbm, 362, rfl⟩
abbrev main_call8_v2 : Ref sig .tc := ⟨.hbm, 363, rfl⟩
abbrev main_v263 : Ref sig .tc := ⟨.hbm, 364, rfl⟩
abbrev main_v264 : Ref sig .tc := ⟨.hbm, 365, rfl⟩
abbrev main_v265 : Ref sig .tc := ⟨.hbm, 366, rfl⟩
abbrev main_v266 : Ref sig .tc := ⟨.hbm, 367, rfl⟩
abbrev main_cst_71 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_cst_72 : Ref sig .tc := ⟨.hbm, 378, rfl⟩
abbrev main_v276 : Ref sig .tc := ⟨.hbm, 379, rfl⟩
abbrev main_v277 : Ref sig .tc := ⟨.hbm, 380, rfl⟩
abbrev main_v278 : Ref sig .tc := ⟨.hbm, 381, rfl⟩
abbrev main_v279 : Ref sig .tc := ⟨.hbm, 382, rfl⟩
abbrev main_v280 : Ref sig .tc := ⟨.hbm, 383, rfl⟩
abbrev main_cst_73 : Ref sig .tc := ⟨.hbm, 384, rfl⟩
abbrev main_v281 : Ref sig .tc := ⟨.hbm, 385, rfl⟩
abbrev main_v282 : Ref sig .tc := ⟨.hbm, 386, rfl⟩
abbrev main_cst_74 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_cst_75 : Ref sig .tc := ⟨.hbm, 391, rfl⟩
abbrev main_v286 : Ref sig .tc := ⟨.hbm, 392, rfl⟩
abbrev main_v287 : Ref sig .tc := ⟨.hbm, 393, rfl⟩
abbrev main_cst_76 : Ref sig .tc := ⟨.hbm, 394, rfl⟩
abbrev main_call9_v0 : Ref sig .tc := ⟨.hbm, 395, rfl⟩
abbrev main_call9_v1 : Ref sig .tc := ⟨.hbm, 396, rfl⟩
abbrev main_call9_v2 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_cst_77 : Ref sig .tc := ⟨.hbm, 402, rfl⟩
abbrev main_v292 : Ref sig .tc := ⟨.hbm, 403, rfl⟩
abbrev main_v293 : Ref sig .tc := ⟨.hbm, 404, rfl⟩
abbrev main_v294 : Ref sig .tc := ⟨.hbm, 405, rfl⟩
abbrev main_v295 : Ref sig .tc := ⟨.hbm, 406, rfl⟩
abbrev main_v296 : Ref sig .tc := ⟨.hbm, 407, rfl⟩
abbrev main_v297 : Ref sig .tc := ⟨.hbm, 408, rfl⟩
abbrev main_v298 : Ref sig .tc := ⟨.hbm, 409, rfl⟩
abbrev main_v299 : Ref sig .tc := ⟨.hbm, 410, rfl⟩
abbrev main_v300 : Ref sig .tc := ⟨.hbm, 411, rfl⟩
abbrev main_cst_78 : Ref sig .tc := ⟨.hbm, 412, rfl⟩
abbrev main_v301 : Ref sig .tc := ⟨.hbm, 413, rfl⟩
abbrev main_v302 : Ref sig .tc := ⟨.hbm, 414, rfl⟩
abbrev main_v303 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_v307 : Ref sig .tc := ⟨.hbm, 419, rfl⟩
abbrev main_v308 : Ref sig .tc := ⟨.hbm, 420, rfl⟩
abbrev main_cst_79 : Ref sig .tc := ⟨.hbm, 421, rfl⟩
abbrev main_v309 : Ref sig .tc := ⟨.hbm, 422, rfl⟩
abbrev main_v310 : Ref sig .tc := ⟨.hbm, 423, rfl⟩
abbrev main_v311 : Ref sig .tc := ⟨.hbm, 424, rfl⟩
abbrev main_v312 : Ref sig .tc := ⟨.hbm, 425, rfl⟩
abbrev main_cst_80 : Ref sig .tc := ⟨.hbm, 426, rfl⟩
abbrev main_v313 : Ref sig .tc := ⟨.hbm, 427, rfl⟩
abbrev main_cst_81 : Ref sig .tc := ⟨.hbm, 428, rfl⟩
abbrev main_v314 : Ref sig .tc := ⟨.hbm, 429, rfl⟩
abbrev main_v315 : Ref sig .tc := ⟨.hbm, 430, rfl⟩
abbrev main_cst_82 : Ref sig .tc := ⟨.hbm, 431, rfl⟩
abbrev main_v316 : Ref sig .tc := ⟨.hbm, 432, rfl⟩
abbrev main_v317 : Ref sig .tc := ⟨.hbm, 433, rfl⟩

abbrev nD : Nat := 1
abbrev τ : Topo := Topo.v7x

variable {F : FTy → Type} [FloatOps F]
-- ==== Proof.RealMath.lean ====
/- The equation over the reals: the kernel's scaled Sinkhorn iteration and the reference's logarithmic one give one loss. -/
module

public import Idealize.ShloMosaic.PureOps.Ideal
public import Mathlib.Analysis.SpecialFunctions.Log.Basic
public import Mathlib.Tactic.Positivity
public import Mathlib.Tactic.FieldSimp
public import Mathlib.Tactic.Linarith
public import Mathlib.Tactic.Ring
public import Mathlib.Tactic.GCongr

@[expose] public section

noncomputable section

namespace Cert.RealMath

open scoped BigOperators

variable {ι : Type} [Fintype ι] [Nonempty ι]

/-! ## Least values -/

/-- The least value of a finite family. -/
def least (f : ι → ℝ) : ℝ := Finset.univ.inf' Finset.univ_nonempty f

theorem least_le (f : ι → ℝ) (i : ι) : least f ≤ f i := Finset.inf'_le f (Finset.mem_univ i)

theorem exists_least (f : ι → ℝ) : ∃ i, least f = f i := by
  obtain ⟨i, -, h⟩ := Finset.exists_mem_eq_inf' Finset.univ_nonempty f
  exact ⟨i, h⟩

/-- Scaling a family by a positive number scales its least value. -/
theorem least_mul {K : ℝ} (hK : 0 < K) (f : ι → ℝ) : least (fun i => K * f i) = K * least f := by
  apply le_antisymm
  · obtain ⟨i, hi⟩ := exists_least f
    rw [hi]
    exact least_le (fun i => K * f i) i
  · obtain ⟨i, hi⟩ := exists_least fun i => K * f i
    rw [hi]
    exact mul_le_mul_of_nonneg_left (least_le f i) hK.le

/-! ## The kernel's iteration -/

section Kernel
variable (c : ι → ι → ℝ)

/-- The least scaled cost of a row. -/
def rowMin (i : ι) : ℝ := least fun j => c i j

/-- The least scaled cost of a column. -/
def colMin (j : ι) : ℝ := least fun i => c i j

/-- The scaled cost less its row's least. -/
def excess (i j : ι) : ℝ := c i j - rowMin c i

/-- The least excess of a column. -/
def shift (j : ι) : ℝ := least fun i => excess c i j

/-- The stabilised kernel matrix. -/
def kern (i j : ι) : ℝ := Real.exp (shift c j - excess c i j)

/-- The column weights the iteration starts from. -/
def weight0 (j : ι) : ℝ := Real.exp (-shift c j)

/-- A weighted row sum. -/
def rowSum (e : ι → ι → ℝ) (w : ι → ℝ) (i : ι) : ℝ := ∑ j, e i j * w j

/-- A weighted column sum. -/
def colSum (e : ι → ι → ℝ) (v : ι → ℝ) (j : ι) : ℝ := ∑ i, e i j * v i

/-- The row weights from the column weights, the divisor kept at least `τ`. -/
def rowStep (τ u : ℝ) (e : ι → ι → ℝ) (w : ι → ℝ) (i : ι) : ℝ := u / max (rowSum e w i) τ

/-- The column weights from the row weights, the divisor kept at least `τ`. -/
def colStep (τ u : ℝ) (e : ι → ι → ℝ) (v : ι → ℝ) (j : ι) : ℝ := u / max (colSum e v j) τ

/-- The column weights after `k` rounds. -/
def weight (τ u : ℝ) : ℕ → ι → ℝ
  | 0 => weight0 c
  | k + 1 => colStep τ u (kern c) (rowStep τ u (kern c) (weight τ u k))

/-- The kernel's loss of one pair of point clouds after five rounds: `a` and `b` the two factors it ends with. -/
def kernelLoss (τ u a b : ℝ) : ℝ :=
  ((∑ i, rowMin c i) + 1 / 2 * ∑ j, colMin c j) * a
    + (∑ i, rowStep τ u (kern c) (weight c τ u 4) i * ∑ j, kern c i j * c i j * weight c τ u 5 j) * b

end Kernel

/-! ## The reference's iteration -/

section Reference
variable (C : ι → ι → ℝ) (ε N : ℝ)

/-- The row potential from the column potential. -/
def rowPot (g : ι → ℝ) (i : ι) : ℝ := ε * (-Real.log N - Real.log (∑ j, Real.exp ((g j - C i j) / ε)))

/-- The column potential from the row potential. -/
def colPot (f : ι → ℝ) (j : ι) : ℝ := ε * (-Real.log N - Real.log (∑ i, Real.exp ((f i - C i j) / ε)))

/-- The column potential after `k` rounds. -/
def pot : ℕ → ι → ℝ
  | 0 => fun _ => 0
  | k + 1 => colPot C ε N (rowPot C ε N (pot k))

/-- The reference's distance between two point clouds, both directions. -/
def chamfer : ℝ := (∑ i, least fun j => C i j) / N + 1 / 2 * ((∑ j, least fun i => C i j) / N)

/-- The reference's transport cost after five rounds. -/
def transport : ℝ :=
  (∑ i, ∑ j, Real.exp ((rowPot C ε N (pot C ε N 4) i + pot C ε N 5 j - C i j) / ε) * C i j) * N

end Reference

/-! ## The stabilised matrix -/

section Bounds
variable (c : ι → ι → ℝ)

theorem excess_nonneg (i j : ι) : 0 ≤ excess c i j := sub_nonneg.2 (least_le (fun j => c i j) j)

theorem shift_nonneg (j : ι) : 0 ≤ shift c j := by
  obtain ⟨i, hi⟩ := exists_least fun i => excess c i j
  rw [shift, hi]
  exact excess_nonneg c i j

theorem kern_pos (i j : ι) : 0 < kern c i j := Real.exp_pos _

theorem kern_le_one (i j : ι) : kern c i j ≤ 1 :=
  Real.exp_le_one_iff.2 (sub_nonpos.2 (least_le (fun i => excess c i j) i))

/-- In every row some entry of the stabilised matrix is 1, where the column's shift is zero. -/
theorem exists_row_one (i : ι) : ∃ j, kern c i j = 1 ∧ shift c j = 0 := by
  obtain ⟨j, hj⟩ := exists_least fun j => c i j
  have h0 : excess c i j = 0 := sub_eq_zero.2 hj.symm
  have hs : shift c j = 0 := le_antisymm (h0 ▸ least_le (fun i => excess c i j) i) (shift_nonneg c j)
  exact ⟨j, by rw [kern, hs, h0, sub_zero, Real.exp_zero], hs⟩

/-- In every column some entry of the stabilised matrix is 1. -/
theorem exists_col_one (j : ι) : ∃ i, kern c i j = 1 := by
  obtain ⟨i, hi⟩ := exists_least fun i => excess c i j
  exact ⟨i, by rw [kern, shift, hi, sub_self, Real.exp_zero]⟩

/-- A row sum of positive weights is at least a weight standing beside a 1, … -/
theorem le_rowSum {w : ι → ℝ} (hw : ∀ j, 0 ≤ w j) {i j : ι} (h : kern c i j = 1) : w j ≤ rowSum (kern c) w i := by
  have := Finset.single_le_sum (f := fun j => kern c i j * w j)
    (fun j _ => mul_nonneg (kern_pos c i j).le (hw j)) (Finset.mem_univ j)
  simpa [h, rowSum] using this

/-- … and at most the number of columns times a bound on the weights. -/
theorem rowSum_le {w : ι → ℝ} {b : ℝ} (hw : ∀ j, 0 ≤ w j) (hb : ∀ j, w j ≤ b) (i : ι) :
    rowSum (kern c) w i ≤ Fintype.card ι * b := by
  have : ∀ j ∈ Finset.univ, kern c i j * w j ≤ b := fun j _ =>
    (mul_le_of_le_one_left (hw j) (kern_le_one c i j)).trans (hb j)
  simpa [rowSum] using Finset.sum_le_sum this

theorem le_colSum {v : ι → ℝ} (hv : ∀ i, 0 ≤ v i) {i j : ι} (h : kern c i j = 1) : v i ≤ colSum (kern c) v j := by
  have := Finset.single_le_sum (f := fun i => kern c i j * v i)
    (fun i _ => mul_nonneg (kern_pos c i j).le (hv i)) (Finset.mem_univ i)
  simpa [h, colSum] using this

theorem colSum_le {v : ι → ℝ} {b : ℝ} (hv : ∀ i, 0 ≤ v i) (hb : ∀ i, v i ≤ b) (j : ι) :
    colSum (kern c) v j ≤ Fintype.card ι * b := by
  have : ∀ i ∈ Finset.univ, kern c i j * v i ≤ b := fun i _ =>
    (mul_le_of_le_one_left (hv i) (kern_le_one c i j)).trans (hb i)
  simpa [colSum] using Finset.sum_le_sum this

end Bounds

/-! ## One round of the kernel is one round of the reference -/

section Round
variable {C : ι → ι → ℝ} {ε N K τ : ℝ}

/-- The exponential of a potential over `ε` is `1/N` over the sum it takes the logarithm of. -/
theorem exp_pot (hε : 0 < ε) (hN : 0 < N) {S : ℝ} (hS : 0 < S) (x : ℝ) :
    Real.exp (ε * (-Real.log N - Real.log S) / ε - x) = 1 / N / (Real.exp x * S) := by
  have h : ε * (-Real.log N - Real.log S) / ε - x = -Real.log N + -Real.log S + -x := by
    field_simp; ring
  rw [h, Real.exp_add, Real.exp_add, Real.exp_neg, Real.exp_neg, Real.exp_neg, Real.exp_log hN, Real.exp_log hS]
  field_simp

/-- The scaled cost of which the kernel's quantities are built. -/
def scaled (K : ℝ) (C : ι → ι → ℝ) (i j : ι) : ℝ := K * C i j

theorem sum_exp_pos (f : ι → ℝ) : 0 < ∑ i, Real.exp (f i) :=
  Finset.sum_pos (fun i _ => Real.exp_pos _) Finset.univ_nonempty

/-- The kernel's row sum is the reference's sum of exponentials times the exponential of the row's least cost. -/
theorem rowSum_eq (hK : K * ε = 1) (g w : ι → ℝ) (hw : ∀ j, w j = Real.exp (g j / ε - shift (scaled K C) j)) (i : ι) :
    rowSum (kern (scaled K C)) w i
      = Real.exp (rowMin (scaled K C) i) * ∑ j, Real.exp ((g j - C i j) / ε) := by
  rw [rowSum, Finset.mul_sum]
  refine Finset.sum_congr rfl fun j _ => ?_
  rw [hw, kern, excess, ← Real.exp_add, ← Real.exp_add]
  congr 1
  have hε : ε ≠ 0 := right_ne_zero_of_mul_eq_one hK
  have : K = 1 / ε := by field_simp; exact hK
  rw [scaled, this]
  ring

/-- The kernel's column sum is the reference's sum of exponentials times the exponential of the column's shift. -/
theorem colSum_eq (hK : K * ε = 1) (f v : ι → ℝ) (hv : ∀ i, v i = Real.exp (f i / ε - rowMin (scaled K C) i)) (j : ι) :
    colSum (kern (scaled K C)) v j
      = Real.exp (shift (scaled K C) j) * ∑ i, Real.exp ((f i - C i j) / ε) := by
  rw [colSum, Finset.mul_sum]
  refine Finset.sum_congr rfl fun i _ => ?_
  rw [hv, kern, excess, ← Real.exp_add, ← Real.exp_add]
  congr 1
  have hε : ε ≠ 0 := right_ne_zero_of_mul_eq_one hK
  have : K = 1 / ε := by field_simp; exact hK
  rw [scaled, this]
  ring

/-- Where no row sum falls below `τ`, the new row weights are the exponentials of the new row potential. -/
theorem rowStep_eq (hε : 0 < ε) (hN : 0 < N) (hK : K * ε = 1) (g w : ι → ℝ)
    (hw : ∀ j, w j = Real.exp (g j / ε - shift (scaled K C) j))
    (hτ : ∀ i, τ ≤ rowSum (kern (scaled K C)) w i) (i : ι) :
    rowStep τ (1 / N) (kern (scaled K C)) w i = Real.exp (rowPot C ε N g i / ε - rowMin (scaled K C) i) := by
  rw [rowStep, max_eq_left (hτ i), rowSum_eq hK g w hw, rowPot, exp_pot hε hN (sum_exp_pos _)]

/-- Where no column sum falls below `τ`, the new column weights are the exponentials of the new column potential. -/
theorem colStep_eq (hε : 0 < ε) (hN : 0 < N) (hK : K * ε = 1) (f v : ι → ℝ)
    (hv : ∀ i, v i = Real.exp (f i / ε - rowMin (scaled K C) i))
    (hτ : ∀ j, τ ≤ colSum (kern (scaled K C)) v j) (j : ι) :
    colStep τ (1 / N) (kern (scaled K C)) v j = Real.exp (colPot C ε N f j / ε - shift (scaled K C) j) := by
  rw [colStep, max_eq_left (hτ j), colSum_eq hK f v hv, colPot, exp_pot hε hN (sum_exp_pos _)]

/-- The state after `k` rounds: the weights are the exponentials of the potential, and the row sums stay between
    powers of the number of points. -/
structure State (C : ι → ι → ℝ) (ε N K : ℝ) (k : ℕ) (w : ι → ℝ) : Prop where
  eq : ∀ j, w j = Real.exp (pot C ε N k j / ε - shift (scaled K C) j)
  lower : ∀ i, 1 / N ^ k ≤ rowSum (kern (scaled K C)) w i
  upper : ∀ i, rowSum (kern (scaled K C)) w i ≤ N ^ (k + 1)

theorem State.zero (hN : (Fintype.card ι : ℝ) = N) : State C ε N K 0 (weight0 (scaled K C)) where
  eq j := by simp [weight0, pot]
  lower i := by
    obtain ⟨j, h1, hs⟩ := exists_row_one (scaled K C) i
    have := le_rowSum (scaled K C) (w := weight0 (scaled K C)) (fun j => (Real.exp_pos _).le) h1
    simpa [weight0, hs] using this
  upper i := by
    have := rowSum_le (scaled K C) (w := weight0 (scaled K C)) (b := 1) (fun j => (Real.exp_pos _).le)
      (fun j => Real.exp_le_one_iff.2 (neg_nonpos.2 (shift_nonneg _ j))) i
    simpa [hN] using this

/-- The row weights of a round lie between powers of the number of points. -/
theorem State.rowStep_bounds (hN1 : 1 ≤ N) {k : ℕ} {w : ι → ℝ} (h : State C ε N K k w)
    (hτ : τ ≤ 1 / N ^ k) (i : ι) :
    1 / N ^ (k + 2) ≤ rowStep τ (1 / N) (kern (scaled K C)) w i
      ∧ rowStep τ (1 / N) (kern (scaled K C)) w i ≤ N ^ k / N := by
  have hN0 : 0 < N := by linarith
  have hl := h.lower i
  have hu := h.upper i
  have hp : 0 < rowSum (kern (scaled K C)) w i := lt_of_lt_of_le (by positivity) hl
  rw [rowStep, max_eq_left (hτ.trans hl)]
  constructor
  · calc 1 / N ^ (k + 2) = 1 / N / N ^ (k + 1) := by field_simp; ring
      _ ≤ _ := by gcongr
  · calc 1 / N / rowSum (kern (scaled K C)) w i ≤ 1 / N / (1 / N ^ k) := by gcongr
      _ = N ^ k / N := by field_simp

/-- A column sum of a round is at least a power of the number of points … -/
theorem State.colSum_lower (hN1 : 1 ≤ N) {k : ℕ} {w : ι → ℝ} (h : State C ε N K k w)
    (hτ : τ ≤ 1 / N ^ k) (j : ι) :
    1 / N ^ (k + 2) ≤ colSum (kern (scaled K C)) (rowStep τ (1 / N) (kern (scaled K C)) w) j := by
  have hN0 : 0 < N := by linarith
  have hb := h.rowStep_bounds hN1 hτ
  obtain ⟨i, hi⟩ := exists_col_one (scaled K C) j
  exact (hb i).1.trans (le_colSum _ (fun i => le_trans (by positivity) (hb i).1) hi)

/-- … and at most another. -/
theorem State.colSum_upper (hN : (Fintype.card ι : ℝ) = N) (hN1 : 1 ≤ N) {k : ℕ} {w : ι → ℝ} (h : State C ε N K k w)
    (hτ : τ ≤ 1 / N ^ k) (j : ι) :
    colSum (kern (scaled K C)) (rowStep τ (1 / N) (kern (scaled K C)) w) j ≤ N ^ k := by
  have hN0 : 0 < N := by linarith
  have hb := h.rowStep_bounds hN1 hτ
  have := colSum_le (scaled K C) (fun i => le_trans (by positivity) (hb i).1) (fun i => (hb i).2) j
  rw [hN] at this
  refine this.trans (le_of_eq ?_)
  field_simp

/-- A round whose divisors cannot fall below `τ` keeps the state. -/
theorem State.succ (hε : 0 < ε) (hK : K * ε = 1) (hN : (Fintype.card ι : ℝ) = N) (hN1 : 1 ≤ N) {k : ℕ} {w : ι → ℝ}
    (h : State C ε N K k w) (hτ : τ ≤ 1 / N ^ (k + 2)) :
    State C ε N K (k + 1)
      (colStep τ (1 / N) (kern (scaled K C)) (rowStep τ (1 / N) (kern (scaled K C)) w)) := by
  have hN0 : 0 < N := by linarith
  have hτ' : τ ≤ 1 / N ^ k := hτ.trans (one_div_le_one_div_of_le (by positivity) (pow_le_pow_right₀ hN1 (by omega)))
  have hlo := h.colSum_lower hN1 hτ'
  have hup := h.colSum_upper hN hN1 hτ'
  have hpos : ∀ j, 0 < colSum (kern (scaled K C)) (rowStep τ (1 / N) (kern (scaled K C)) w) j :=
    fun j => lt_of_lt_of_le (by positivity) (hlo j)
  have hw : ∀ j, 1 / N ^ (k + 1) ≤ colStep τ (1 / N) (kern (scaled K C)) (rowStep τ (1 / N) (kern (scaled K C)) w) j
      ∧ colStep τ (1 / N) (kern (scaled K C)) (rowStep τ (1 / N) (kern (scaled K C)) w) j ≤ N ^ (k + 1) := by
    intro j
    have h1 := hlo j
    have h2 := hup j
    have h3 := hpos j
    rw [colStep, max_eq_left (hτ.trans h1)]
    constructor
    · calc 1 / N ^ (k + 1) = 1 / N / N ^ k := by field_simp; ring
        _ ≤ _ := by gcongr
    · calc 1 / N / colSum (kern (scaled K C)) (rowStep τ (1 / N) (kern (scaled K C)) w) j
          ≤ 1 / N / (1 / N ^ (k + 2)) := by gcongr
        _ = N ^ (k + 1) := by field_simp; ring
  have hw0 : ∀ j, 0 ≤ colStep τ (1 / N) (kern (scaled K C)) (rowStep τ (1 / N) (kern (scaled K C)) w) j :=
    fun j => le_trans (by positivity) (hw j).1
  refine ⟨fun j => ?_, fun i => ?_, fun i => ?_⟩
  · exact colStep_eq hε hN0 hK (rowPot C ε N (pot C ε N k)) _
      (rowStep_eq hε hN0 hK _ _ h.eq fun i => hτ'.trans (h.lower i)) (fun j => hτ.trans (hlo j)) j
  · obtain ⟨j, h1, -⟩ := exists_row_one (scaled K C) i
    exact (hw j).1.trans (le_rowSum _ hw0 h1)
  · refine (rowSum_le _ hw0 (fun j => (hw j).2) i).trans (le_of_eq ?_)
    rw [hN]; ring

/-- Every one of the first rounds keeps the state, when `τ` is at most the sixth inverse power of the number of points. -/
theorem state_weight (hε : 0 < ε) (hK : K * ε = 1) (hN : (Fintype.card ι : ℝ) = N) (hN1 : 1 ≤ N)
    (hτ : τ ≤ 1 / N ^ 6) : ∀ k ≤ 5, State C ε N K k (weight (scaled K C) τ (1 / N) k)
  | 0, _ => State.zero hN
  | k + 1, hk => by
    have hN0 : 0 < N := by linarith
    refine (state_weight hε hK hN hN1 hτ k (by omega)).succ hε hK hN hN1 (hτ.trans ?_)
    exact one_div_le_one_div_of_le (by positivity) (pow_le_pow_right₀ hN1 (by omega))

/-- THE EQUATION: the kernel's loss of one pair of clouds is the reference's distance plus its transport cost. -/
theorem kernelLoss_eq (hε : 0 < ε) (hK : K * ε = 1) (hN : (Fintype.card ι : ℝ) = N) (hN1 : 1 ≤ N)
    (hτ : τ ≤ 1 / N ^ 6) :
    kernelLoss (scaled K C) τ (1 / N) (ε / N) (ε * N) = chamfer C N + transport C ε N := by
  have hN0 : 0 < N := by linarith
  have hε0 : ε ≠ 0 := hε.ne'
  have hKe : K = 1 / ε := by field_simp; exact hK
  have hK0 : 0 < K := by rw [hKe]; positivity
  have h4 := state_weight (C := C) hε hK hN hN1 hτ 4 (by omega)
  have h5 := state_weight (C := C) hε hK hN hN1 hτ 5 (by omega)
  have hv := rowStep_eq hε hN0 hK _ _ h4.eq fun i => (hτ.trans (one_div_le_one_div_of_le (by positivity)
    (pow_le_pow_right₀ hN1 (by omega)))).trans (h4.lower i)
  have h1 : ∑ i, rowMin (scaled K C) i = K * ∑ i, least fun j => C i j := by
    rw [Finset.mul_sum]; exact Finset.sum_congr rfl fun i _ => least_mul hK0 _
  have h2 : ∑ j, colMin (scaled K C) j = K * ∑ j, least fun i => C i j := by
    rw [Finset.mul_sum]; exact Finset.sum_congr rfl fun j _ => least_mul hK0 _
  have h3 : ∑ i, rowStep τ (1 / N) (kern (scaled K C)) (weight (scaled K C) τ (1 / N) 4) i
        * ∑ j, kern (scaled K C) i j * scaled K C i j * weight (scaled K C) τ (1 / N) 5 j
      = K * ∑ i, ∑ j, Real.exp ((rowPot C ε N (pot C ε N 4) i + pot C ε N 5 j - C i j) / ε) * C i j := by
    rw [Finset.mul_sum]
    refine Finset.sum_congr rfl fun i _ => ?_
    rw [Finset.mul_sum, Finset.mul_sum]
    refine Finset.sum_congr rfl fun j _ => ?_
    have he : Real.exp ((rowPot C ε N (pot C ε N 4) i + pot C ε N 5 j - C i j) / ε)
        = Real.exp (rowPot C ε N (pot C ε N 4) i / ε - rowMin (scaled K C) i) * kern (scaled K C) i j
          * Real.exp (pot C ε N 5 j / ε - shift (scaled K C) j) := by
      rw [kern, excess, ← Real.exp_add, ← Real.exp_add]
      congr 1
      rw [show scaled K C i j = K * C i j from rfl, hKe]
      ring
    rw [hv, h5.eq, he, show scaled K C i j = K * C i j from rfl]
    ring
  rw [kernelLoss, h1, h2, h3, chamfer, transport, hKe]
  field_simp

end Round

/-! ## The cost -/

/-- The squared distance of point `i` of `P` and point `j` of `T`, multiplied out. -/
def cost {κ : Type} [Fintype κ] (P T : ι → κ → ℝ) (i j : ι) : ℝ :=
  (∑ k, P i k * P i k) + (∑ k, T j k * T j k) - 2 * ∑ k, P i k * T j k

omit [Fintype ι] [Nonempty ι] in
/-- It is a sum of squares, so never negative. -/
theorem cost_nonneg {κ : Type} [Fintype κ] (P T : ι → κ → ℝ) (i j : ι) : 0 ≤ cost P T i j := by
  have h : cost P T i j = ∑ k, (P i k - T j k) ^ 2 := by
    rw [cost, Finset.mul_sum, ← Finset.sum_add_distrib, ← Finset.sum_sub_distrib]
    exact Finset.sum_congr rfl fun k _ => by ring
  rw [h]
  exact Finset.sum_nonneg fun k _ => sq_nonneg _

/-! ## The shift inside a logarithm of a sum of exponentials -/

/-- Subtracting a number before the exponentials and adding it after the logarithm changes nothing. -/
theorem log_sum_exp_shift (a : ι → ℝ) (m : ℝ) :
    Real.log (∑ i, Real.exp (a i - m)) + m = Real.log (∑ i, Real.exp (a i)) := by
  have h : ∑ i, Real.exp (a i - m) = Real.exp (-m) * ∑ i, Real.exp (a i) := by
    rw [Finset.mul_sum]
    exact Finset.sum_congr rfl fun i _ => by rw [← Real.exp_add]; ring_nf
  rw [h, Real.log_mul (Real.exp_pos _).ne' (sum_exp_pos a).ne', Real.log_exp]
  ring

end Cert.RealMath

end
-- ==== Proof.Lift.lean ====
/- Real numbers inside the extended reals: sums, folds, quotients, exponentials and logarithms of reals are reals, and
   the constants both programs print are these reals. -/
module

public import Idealize.ShloMosaic.PureOps.Ideal.Laws
public import proofs.«01_k».proof.Proof.RealMath

@[expose] public section

noncomputable section

namespace Cert.Lift

open Idealize.ShloMosaic Cert.RealMath
open scoped BigOperators

/-! ## Operations -/

/-- A finite sum of reals is a real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The minimum of a nonempty finite family of reals, taken from `⊤`, is its least value. -/
theorem fold_min_coe {ι : Type} [Fintype ι] [Nonempty ι] (f : ι → ℝ) :
    (Finset.univ : Finset ι).fold min (⊤ : EReal) (fun i => (f i : EReal)) = (least f : EReal) := by
  apply le_antisymm
  · obtain ⟨i, hi⟩ := exists_least f
    rw [hi]
    exact Finset.fold_min_le _ |>.2 (.inr ⟨i, Finset.mem_univ i, le_rfl⟩)
  · refine Finset.le_fold_min _ |>.2 ⟨le_top, fun i _ => ?_⟩
    exact EReal.coe_le_coe_iff.2 (least_le f i)

/-- The maximum of a nonempty finite family of reals, taken from `⊥`, is some real. -/
theorem fold_max_coe {ι : Type} [Fintype ι] [Nonempty ι] (f : ι → ℝ) :
    ∃ m : ℝ, (Finset.univ : Finset ι).fold max (⊥ : EReal) (fun i => (f i : EReal)) = (m : EReal) := by
  refine ⟨Finset.univ.sup' Finset.univ_nonempty f, le_antisymm ?_ ?_⟩
  · refine Finset.fold_max_le _ |>.2 ⟨bot_le, fun i _ => ?_⟩
    exact EReal.coe_le_coe_iff.2 (Finset.le_sup' f (Finset.mem_univ i))
  · obtain ⟨i, -, hi⟩ := Finset.exists_mem_eq_sup' Finset.univ_nonempty f
    rw [hi]
    exact Finset.le_fold_max _ |>.2 (.inr ⟨i, Finset.mem_univ i, le_rfl⟩)

/-- A quotient of reals is a real, off zero. -/
theorem div_coe_coe (a : ℝ) {b : ℝ} (hb : b ≠ 0) : Ideal.div (a : EReal) (b : EReal) = ((a / b : ℝ) : EReal) := by
  rw [Ideal.div_coe hb, ← EReal.coe_mul, mul_one_div]

/-- The logarithm of a positive real is a real. -/
theorem log_coe_pos {a : ℝ} (ha : 0 < a) : Ideal.log (a : EReal) = (Real.log a : EReal) := by
  rw [Ideal.log_coe, if_neg (not_le.2 ha)]

/-- The larger of two reals is a real. -/
theorem max_coe (a b : ℝ) : max (a : EReal) (b : EReal) = ((max a b : ℝ) : EReal) :=
  (EReal.coe_strictMono.monotone.map_max).symm

/-- The absolute value of a real, as both programs compute it. -/
theorem abs_coe (a : ℝ) : max (a : EReal) (-(a : EReal)) = ((|a| : ℝ) : EReal) := by
  rw [← EReal.coe_neg, max_coe, abs_eq_max_neg]

/-- An extended real whose absolute value is below `⊤` is a real. -/
theorem exists_coe {x : EReal} (h : max x (-x) < ⊤) : ∃ r : ℝ, x = (r : EReal) := by
  induction x using EReal.rec with
  | bot => simp at h
  | top => simp at h
  | coe r => exact ⟨r, rfl⟩

/-! ## Constants -/

/-- The float32 nearest `0.05`. -/
def eps : ℝ := 13421773 / 268435456

/-- The float32 nearest `1e-30`. -/
def tiny : ℝ := 10633824 * (2 : ℝ) ^ (-123 : ℤ)

theorem eps_pos : 0 < eps := by norm_num [eps]

theorem inv_eps_mul : (268435456 / 13421773 : ℝ) * eps = 1 := by norm_num [eps]

theorem tiny_pos : 0 < tiny := by unfold tiny; positivity

theorem tiny_le : tiny ≤ 1 / 1024 ^ 6 := by
  unfold tiny
  rw [zpow_neg, show ((123 : ℤ)) = ((123 : ℕ) : ℤ) from rfl, zpow_natCast]
  norm_num

theorem bits_zero : Ideal.ofBits .f32 0x00000000#32 = ((0 : ℝ) : EReal) := by
  simp [Ideal.ofBits, Ideal.ieee, -EReal.coe_mul]

theorem bits_half : Ideal.ofBits .f32 0x3F000000#32 = ((1 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_count : Ideal.ofBits .f32 0x44800000#32 = ((1024 : ℝ) : EReal) := by
  simp [Ideal.ofBits, Ideal.ieee, -EReal.coe_mul]; norm_num

theorem bits_inv_count : Ideal.ofBits .f32 0x3A800000#32 = ((1 / 1024 : ℝ) : EReal) := by
  simp [Ideal.ofBits, Ideal.ieee, -EReal.coe_mul]; norm_num

theorem bits_eps : Ideal.ofBits .f32 0x3D4CCCCD#32 = (eps : EReal) := by
  simp [Ideal.ofBits, Ideal.ieee, eps, -EReal.coe_mul]; norm_num

theorem bits_eps_over_count : Ideal.ofBits .f32 0x384CCCCD#32 = ((eps / 1024 : ℝ) : EReal) := by
  simp [Ideal.ofBits, Ideal.ieee, eps, -EReal.coe_mul]; norm_num

theorem bits_eps_times_count : Ideal.ofBits .f32 0x424CCCCD#32 = ((eps * 1024 : ℝ) : EReal) := by
  simp [Ideal.ofBits, Ideal.ieee, eps, -EReal.coe_mul]; norm_num

theorem bits_tiny : Ideal.ofBits .f32 0x0DA24260#32 = (tiny : EReal) := by
  simp [Ideal.ofBits, Ideal.ieee, tiny, -EReal.coe_mul]

theorem bits_top : Ideal.ofBits .f32 0x7F800000#32 = ⊤ := by
  simp [Ideal.ofBits, Ideal.ieee]

theorem bits_bot : Ideal.ofBits .f32 0xFF800000#32 = ⊥ := by
  simp [Ideal.ofBits, Ideal.ieee]

end Cert.Lift

end
-- ==== Proof.Block.lean ====
/- What one block computes: the kernel body's values, over blocks of real coordinates, are the reals of `RealMath`. -/
module

public import Idealize.ShloMosaic.Lib.ValueIdx
public import Idealize.ShloMosaic.Lib.ValueLayout
public import Idealize.ShloMosaic.Lib.Pipeline.Value
public import proofs.«01_k».proof.Proof.Gen.KernelIdeal.Skeleton
public import proofs.«01_k».proof.Proof.Lift

@[expose] public section

noncomputable section

namespace Cert.Block

open Idealize.ShloMosaic Idealize.ShloMosaic.ValueIdx Cert.KernelIdeal Cert.KernelIdeal.Gen Cert.RealMath Cert.Lift
open scoped BigOperators

/-- The points of one cloud. -/
abbrev Pts := Fin 1024

/-! ## Vectors of reals -/

/-- The matrix `x` holds the reals `X`. -/
def IsMat (x : FVec Ideal S1024x1024 .f32) (X : Pts → Pts → ℝ) : Prop := ∀ i j, x (ix2 i j) = (X i j : EReal)

/-- The column `x` holds the reals `X`. -/
def IsCol (x : FVec Ideal S1024x1 .f32) (X : Pts → ℝ) : Prop := ∀ i, x (ix2 i (0 : Fin 1)) = (X i : EReal)

/-- The row `x` holds the reals `X`. -/
def IsRow (x : FVec Ideal S1x1024 .f32) (X : Pts → ℝ) : Prop := ∀ j, x (ix2 (0 : Fin 1) j) = (X j : EReal)

/-! ## The operations -/

/-- A column spread over a matrix reads, at `(i, j)`, the column at `i`. -/
theorem spreadCol {α : Type} (v : S1024x1.Idx → α) (h : S1024x1.Broadcasts S1024x1024) (i j : Pts) :
    broadcastTo S1024x1024 v h (ix2 i j) = v (ix2 i (0 : Fin 1)) :=
  broadcastTo_apply v h _ _ fun a => match a with | ⟨0, _⟩ => rfl | ⟨1, _⟩ => rfl

/-- A row spread over a matrix reads, at `(i, j)`, the row at `j`. -/
theorem spreadRow {α : Type} (v : S1x1024.Idx → α) (h : S1x1024.Broadcasts S1024x1024) (i j : Pts) :
    broadcastTo S1024x1024 v h (ix2 i j) = v (ix2 (0 : Fin 1) j) :=
  broadcastTo_apply v h _ _ fun a => match a with | ⟨0, _⟩ => rfl | ⟨1, _⟩ => rfl

/-- A vector stood up as a column reads, at `i`, the vector at `i`. -/
theorem standCol {α : Type} (v : S1024.Idx → α) (h : S1024.ShapeCasts S1024x1) (i : Pts) :
    shapeCast S1024x1 v h (ix2 i (0 : Fin 1)) = v (ix1 i) :=
  shapeCast_apply v h _ _ (by
    rw [Shape.rowMajor_val_two, Shape.rowMajor_val_one]
    show i.val = i.val * 1 + 0
    omega)

/-- Summing the matrix along its rows, read at `i`. -/
theorem sumRows {n : ℕ} (x : FVec Ideal ⟨2, ![1024, n]⟩ .f32) (h : Shape.Reduces ⟨2, ![1024, n]⟩ [1] S1024)
    (hφ : FKind.Formats .f32) (ha : (0x00000000#32 : BitVec 32) = FKind.add.neutral .f32 hφ) (i : Pts) :
    multiReduction .add [1] S1024 x 0x00000000#32 h hφ ha (ix1 i) = ∑ k : Fin n, x (ix2 i k) := by
  refine (Ideal.multiReduction_add_single x _ h hφ ha (ix1 i)).trans (Finset.sum_congr rfl fun k _ => ?_)
  exact congrArg x (funext fun a => Fin.ext (match a with | ⟨0, _⟩ => rfl | ⟨1, _⟩ => rfl))

/-- Summing the matrix along its columns, read at `j`. -/
theorem sumCols {n : ℕ} (x : FVec Ideal ⟨2, ![n, 1024]⟩ .f32) (h : Shape.Reduces ⟨2, ![n, 1024]⟩ [0] S1024)
    (hφ : FKind.Formats .f32) (ha : (0x00000000#32 : BitVec 32) = FKind.add.neutral .f32 hφ) (j : Pts) :
    multiReduction .add [0] S1024 x 0x00000000#32 h hφ ha (ix1 j) = ∑ k : Fin n, x (ix2 k j) := by
  refine (Ideal.multiReduction_add_single x _ h hφ ha (ix1 j)).trans (Finset.sum_congr rfl fun k _ => ?_)
  exact congrArg x (funext fun a => Fin.ext (match a with | ⟨0, _⟩ => rfl | ⟨1, _⟩ => rfl))

/-- The least element of a row of a matrix of reals. -/
theorem minRows {x : FVec Ideal S1024x1024 .f32} {X : Pts → Pts → ℝ} (hx : IsMat x X) (h : S1024x1024.Reduces [1] S1024)
    (hφ : FKind.Formats .f32) (ha : (0x7F800000#32 : BitVec 32) = FKind.minimumf.neutral .f32 hφ) (i : Pts) :
    multiReduction .minimumf [1] S1024 x 0x7F800000#32 h hφ ha (ix1 i) = ((least fun j => X i j : ℝ) : EReal) := by
  rw [multiReduction_minimumf_eq_fold, h.fold_filter_drop_single]
  refine Eq.trans ?_ (fold_min_coe fun j => X i j)
  rw [show (FloatOps.ofBits (F := Ideal) .f32 0x7F800000#32) = (⊤ : EReal) from bits_top]
  refine Finset.fold_congr (op := min) fun k _ => Eq.trans ?_ (hx i k)
  exact congrArg x (funext fun a => Fin.ext (match a with | ⟨0, _⟩ => rfl | ⟨1, _⟩ => rfl))

/-- The least element of a column of a matrix of reals. -/
theorem minCols {x : FVec Ideal S1024x1024 .f32} {X : Pts → Pts → ℝ} (hx : IsMat x X) (h : S1024x1024.Reduces [0] S1024)
    (hφ : FKind.Formats .f32) (ha : (0x7F800000#32 : BitVec 32) = FKind.minimumf.neutral .f32 hφ) (j : Pts) :
    multiReduction .minimumf [0] S1024 x 0x7F800000#32 h hφ ha (ix1 j) = ((least fun i => X i j : ℝ) : EReal) := by
  rw [multiReduction_minimumf_eq_fold, h.fold_filter_drop_single]
  refine Eq.trans ?_ (fold_min_coe fun i => X i j)
  rw [show (FloatOps.ofBits (F := Ideal) .f32 0x7F800000#32) = (⊤ : EReal) from bits_top]
  refine Finset.fold_congr (op := min) fun k _ => Eq.trans ?_ (hx k j)
  exact congrArg x (funext fun a => Fin.ext (match a with | ⟨0, _⟩ => rfl | ⟨1, _⟩ => rfl))

/-- A shape cast summed over all its indices is its operand summed over all of its own. -/
theorem sum_shapeCast {s t : Shape} (v : s.Idx → EReal) (h : s.ShapeCasts t) : ∑ i, shapeCast t v h i = ∑ i, v i :=
  Equiv.sum_comp (Shape.reshapeEquiv h) v

/-- The sum of a column of reals, taken as a scalar. -/
theorem totalCol {x : FVec Ideal S1024x1 .f32} {X : Pts → ℝ} (hx : IsCol x X) (h1 : S1024x1.ShapeCasts S1x1024x1)
    (h2 : S1x1024x1.Reduces [1, 2] S1) (hφ : FKind.Formats .f32)
    (ha : (0x00000000#32 : BitVec 32) = FKind.add.neutral .f32 hφ) (h3 : S1.ShapeCasts S1x1x1)
    (h4 : ∀ a, (![0, 0, 0] : Fin 3 → Nat) a < S1x1x1.size a) :
    extractAt ![0, 0, 0] (shapeCast S1x1x1 (multiReduction .add [1, 2] S1 (shapeCast S1x1024x1 x h1) 0x00000000#32 h2 hφ ha) h3) h4
      = ((∑ i, X i : ℝ) : EReal) := by
  unfold extractAt
  unfold shapeCast
  rw [Ideal.multiReduction_add_total _ _ h2 (fun b => match b with | ⟨0, _⟩ => rfl) hφ ha]
  refine (sum_shapeCast x h1).trans ?_
  rw [sum_idx2, ← sum_coe]
  exact Finset.sum_congr rfl fun i _ => by rw [Fin.sum_univ_one]; exact hx i

/-- The sum of a row of reals, taken as a scalar. -/
theorem totalRow {x : FVec Ideal S1x1024 .f32} {X : Pts → ℝ} (hx : IsRow x X) (h1 : S1x1024.ShapeCasts S1x1x1024)
    (h2 : S1x1x1024.Reduces [1, 2] S1) (hφ : FKind.Formats .f32)
    (ha : (0x00000000#32 : BitVec 32) = FKind.add.neutral .f32 hφ) (h3 : S1.ShapeCasts S1x1x1)
    (h4 : ∀ a, (![0, 0, 0] : Fin 3 → Nat) a < S1x1x1.size a) :
    extractAt ![0, 0, 0] (shapeCast S1x1x1 (multiReduction .add [1, 2] S1 (shapeCast S1x1x1024 x h1) 0x00000000#32 h2 hφ ha) h3) h4
      = ((∑ i, X i : ℝ) : EReal) := by
  unfold extractAt
  unfold shapeCast
  rw [Ideal.multiReduction_add_total _ _ h2 (fun b => match b with | ⟨0, _⟩ => rfl) hφ ha]
  refine (sum_shapeCast x h1).trans ?_
  rw [sum_idx2, Fin.sum_univ_one, ← sum_coe]
  exact Finset.sum_congr rfl fun i _ => hx i

/-- A product of scalars is the product of reals, -/
theorem scalar_mul (a b : Ideal .f32) : Scalar.mulf (F := Ideal) a b = (a * b : EReal) := rfl

/-- a sum the sum, -/
theorem scalar_add (a b : Ideal .f32) : Scalar.addf (F := Ideal) a b = (a + b : EReal) := rfl

/-- and a word the number it writes. -/
theorem scalar_bits (w : BitVec 32) : Scalar.ofBits (F := Ideal) .f32 w = Ideal.ofBits .f32 w := rfl

/-! ## A half of a round -/

/-- The weighted row sums of a matrix of reals. -/
theorem rowSum_col {e : FVec Ideal S1024x1024 .f32} {w : FVec Ideal S1x1024 .f32} {E : Pts → Pts → ℝ} {W : Pts → ℝ}
    (he : IsMat e E) (hw : IsRow w W) (hb : S1x1024.Broadcasts S1024x1024) (h : S1024x1024.Reduces [1] S1024)
    (hφ : FKind.Formats .f32) (ha : (0x00000000#32 : BitVec 32) = FKind.add.neutral .f32 hφ)
    (hs : S1024.ShapeCasts S1024x1) :
    IsCol (shapeCast S1024x1 (multiReduction .add [1] S1024 (mulf e (broadcastTo S1024x1024 w hb)) 0x00000000#32 h hφ ha) hs)
      (rowSum E W) := fun i => by
  rw [standCol, sumRows, rowSum, ← sum_coe]
  exact Finset.sum_congr rfl fun k _ => by rw [mulf_apply, spreadRow, he, hw, EReal.coe_mul]

/-- The weighted column sums of a matrix of reals. -/
theorem colSum_row {e : FVec Ideal S1024x1024 .f32} {v : FVec Ideal S1024x1 .f32} {E : Pts → Pts → ℝ} {V : Pts → ℝ}
    (he : IsMat e E) (hv : IsCol v V) (hb : S1024x1.Broadcasts S1024x1024) (h : S1024x1024.Reduces [0] S1024)
    (hφ : FKind.Formats .f32) (ha : (0x00000000#32 : BitVec 32) = FKind.add.neutral .f32 hφ)
    (hs : S1024.ShapeCasts S1x1024) :
    IsRow (shapeCast S1x1024 (multiReduction .add [0] S1024 (mulf e (broadcastTo S1024x1024 v hb)) 0x00000000#32 h hφ ha) hs)
      (colSum E V) := fun j => by
  rw [shapeCast_a_1a_apply, sumCols, colSum, ← sum_coe]
  exact Finset.sum_congr rfl fun k _ => by rw [mulf_apply, spreadCol, he, hv, EReal.coe_mul]

/-- The quotient of the inverse count by a real kept at least `tiny`. -/
theorem quotient (S : ℝ) :
    Ideal.div (Ideal.ofBits .f32 0x3A800000#32) (max (S : EReal) (Ideal.ofBits .f32 0x0DA24260#32))
      = ((1 / 1024 / max S tiny : ℝ) : EReal) := by
  rw [bits_inv_count, bits_tiny, max_coe, div_coe_coe _ (lt_max_of_lt_right tiny_pos).ne']

/-- The row weights from the row sums. -/
theorem rowStep_col {s : FVec Ideal S1024x1 .f32} {E : Pts → Pts → ℝ} {W : Pts → ℝ} (hs : IsCol s (rowSum E W)) :
    IsCol (divf (broadcast S1024x1 (Scalar.ofBits .f32 0x3A800000#32))
        (maximumf s (broadcast S1024x1 (Scalar.ofBits .f32 0x0DA24260#32))))
      (rowStep tiny (1 / 1024) E W) := fun i => by
  rw [divf_apply, maximumf_apply, hs i]
  exact quotient _

/-- The column weights from the column sums. -/
theorem colStep_row {s : FVec Ideal S1x1024 .f32} {E : Pts → Pts → ℝ} {V : Pts → ℝ} (hs : IsRow s (colSum E V)) :
    IsRow (divf (broadcast S1x1024 (Scalar.ofBits .f32 0x3A800000#32))
        (maximumf s (broadcast S1x1024 (Scalar.ofBits .f32 0x0DA24260#32))))
      (colStep tiny (1 / 1024) E V) := fun j => by
  rw [divf_apply, maximumf_apply, hs j]
  exact quotient _

/-! ## The payloads -/

/-- The name of the reciprocal of `eps`. -/
theorem inv_eps_named : Named.named (F := Ideal) κ "inv_eps" (φ := .f32) 0x41A00000#32 = ((268435456 / 13421773 : ℝ) : EReal) :=
  IdealRules.named_const.ideal_named_scalar _ _ _ _ rfl

/-- Twice it. -/
theorem twice_inv_eps : Scalar.mulf (Scalar.ofBits (F := Ideal) .f32 0x40000000#32) (Named.named (F := Ideal) κ "inv_eps" 0x41A00000#32)
    = ((2 * (268435456 / 13421773) : ℝ) : EReal) := by
  rw [scalar_mul, scalar_bits, inv_eps_named, bits_two, ← EReal.coe_mul]

section Payloads
variable {v0 : Vec Ideal S1x1024x3 .f32} {v2 : Vec Ideal S1x3x1024 .f32} {P T : Pts → Fin 3 → ℝ}

/-- The product of the two blocks, read at `(i, j)`. -/
theorem cross_apply (l : FVec Ideal S1024x3 .f32) (r : FVec Ideal S3x1024 .f32) (i j : Pts) :
    matmul dot_S1024x3_S3x1024_S1024x1024_1_0_0_1_n_n none l r (constant S1024x1024 .f32 0x00000000#32) (ix2 i j)
      = ∑ k : Fin 3, l (ix2 i k) * r (ix2 k j) := by
  refine (Ideal.matmul_constant_zero_apply _ _ l r (ix2 i j)).trans ?_
  rw [← Equiv.sum_comp (contrEquiv1 dot_S1024x3_S3x1024_S1024x1024_1_0_0_1_n_n 3 rfl rfl).symm]
  refine Finset.sum_congr rfl fun k _ => ?_
  congr 1
  · exact congrArg l (funext fun a => Fin.ext (match a with | ⟨0, _⟩ => rfl | ⟨1, _⟩ => rfl))
  · exact congrArg r (funext fun a => Fin.ext (match a with | ⟨0, _⟩ => rfl | ⟨1, _⟩ => rfl))

/-- The scaled cost. -/
theorem pay3 (hP : ∀ i k, v0 (ix3 (0 : Fin 1) i k) = (P i k : EReal)) (hT : ∀ k j, v2 (ix3 (0 : Fin 1) k j) = (T j k : EReal)) :
    IsMat (k0_pay3 v0 v2) (scaled (268435456 / 13421773) (cost P T)) := fun i j => by
  have hp : ∀ i k, shapeCast S1024x3 v0 shapeCasts_S1x1024x3_S1024x3 (ix2 i k) = (P i k : EReal) := fun i k => by
    rw [shapeCast_1ab_ab_apply]; exact hP i k
  have ht : ∀ k j, shapeCast S3x1024 v2 shapeCasts_S1x3x1024_S3x1024 (ix2 k j) = (T j k : EReal) := fun k j => by
    rw [shapeCast_1ab_ab_apply]; exact hT k j
  unfold k0_pay3
  dsimp only
  rw [subf_apply, addf_apply, mulf_apply, spreadCol, spreadRow, mulf_apply, mulf_apply, standCol, shapeCast_a_1a_apply]
  refine (congrArg₂ (· - ·) (congrArg₂ (· + ·) (congrArg (· * _) (sumRows _ _ _ _ i)) (congrArg (· * _) (sumCols _ _ _ _ j)))
    (congrArg₂ (· * ·) twice_inv_eps (cross_apply _ _ i j))).trans ?_
  simp only [mulf_apply, hp, ht, broadcast_apply, inv_eps_named, Scalar.mulf, Scalar.ofBits, Ideal.mulf_def, Ideal.ofBits_def,
    bits_two, ← EReal.coe_mul, sum_coe, ← EReal.coe_add, ← EReal.coe_sub]
  rw [scaled, cost]
  congr 1
  ring

variable {c : Pts → Pts → ℝ}

/-- The least scaled cost of each row. -/
theorem pay4 (h : IsMat (k0_pay3 v0 v2) c) : IsCol (k0_pay4 v0 v2) (rowMin c) := fun i => by
  unfold k0_pay4
  refine (standCol _ _ i).trans ?_
  exact minRows h _ _ _ i

/-- The scaled cost less its row's least. -/
theorem pay5 (h : IsMat (k0_pay3 v0 v2) c) : IsMat (k0_pay5 v0 v2) (excess c) := fun i j => by
  unfold k0_pay5
  rw [subf_apply, spreadCol, h, pay4 h, ← EReal.coe_sub]
  rfl

/-- The least excess of each column. -/
theorem pay6 (h : IsMat (k0_pay3 v0 v2) c) : IsRow (k0_pay6 v0 v2) (shift c) := fun j => by
  unfold k0_pay6
  refine (shapeCast_a_1a_apply _ _ _ _).trans ?_
  exact minCols (pay5 h) _ _ _ j

/-- The sums of the least scaled costs, both directions. -/
theorem pay8 (h : IsMat (k0_pay3 v0 v2) c) :
    k0_pay8 (k0_pay7 v0 v2) = ((((∑ i, rowMin c i) + 1 / 2 * ∑ j, colMin c j) * (eps / 1024) : ℝ) : EReal) := by
  have hd : IsRow (shapeCast S1x1024 (multiReduction .minimumf [0] S1024 (k0_pay3 v0 v2) 0x7F800000#32
      reduces_S1024x1024_S1024_2 (.inl rfl) rfl) shapeCasts_S1024_S1x1024) (colMin c) := fun j => by
    refine (shapeCast_a_1a_apply _ _ _ _).trans ?_
    exact minCols h _ _ _ j
  unfold k0_pay8 k0_pay7
  refine (congrArg₂ (fun y z => Scalar.mulf (Scalar.addf y (Scalar.mulf (Scalar.ofBits .f32 0x3F000000#32) z))
    (Scalar.ofBits .f32 0x384CCCCD#32)) (totalCol (pay4 h) _ _ _ _ _ _) (totalRow hd _ _ _ _ _ _)).trans ?_
  simp only [scalar_mul, scalar_add, scalar_bits, bits_half,
    bits_eps_over_count, ← EReal.coe_mul, ← EReal.coe_add]

variable {v27 : FVec Ideal S1024x1024 .f32} {v29 : FVec Ideal S1x1024 .f32}

/-- The stabilised matrix. -/
theorem pay9 (hm : IsMat v27 (excess c)) (hs : IsRow v29 (shift c)) : IsMat (k0_pay9 v27 v29) (kern c) := fun i j => by
  unfold k0_pay9
  show Ideal.exp (subf (broadcastTo S1024x1024 v29 broadcasts_S1x1024_S1024x1024) v27 (ix2 i j)) = _
  rw [subf_apply, spreadRow, hm, hs, ← EReal.coe_sub, Ideal.exp_coe]
  rfl

/-- The starting column weights. -/
theorem weight0_row (hs : IsRow v29 (shift c)) :
    IsRow (exp (subf (broadcast S1x1024 (Scalar.ofBits .f32 0x00000000#32)) v29)) (weight0 c) := fun j => by
  show Ideal.exp (Ideal.ofBits .f32 0x00000000#32 - v29 (ix2 (0 : Fin 1) j)) = _
  rw [hs, bits_zero, ← EReal.coe_sub, zero_sub, Ideal.exp_coe]
  rfl

/-- The row sums of the third round, before they are kept at least `tiny`. -/
theorem pay10 (hm : IsMat v27 (excess c)) (hs : IsRow v29 (shift c)) :
    IsCol (k0_pay10 v27 v29) (rowSum (kern c) (weight c tiny (1 / 1024) 2)) := by
  have he := pay9 hm hs
  unfold k0_pay10
  exact rowSum_col he (colStep_row (colSum_row he (rowStep_col (rowSum_col he
    (colStep_row (colSum_row he (rowStep_col (rowSum_col he (weight0_row hs) _ _ _ _ _)) _ _ _ _ _))
    _ _ _ _ _)) _ _ _ _ _)) _ _ _ _ _

variable {v43 : FVec Ideal S1024x1024 .f32} {v82 : FVec Ideal S1024x1 .f32}

/-- The row weights of the fifth round. -/
theorem pay12 (he : IsMat v43 (kern c)) (hs : IsCol v82 (rowSum (kern c) (weight c tiny (1 / 1024) 2))) :
    IsCol (k0_pay12 v43 v82 k0_pay11) (rowStep tiny (1 / 1024) (kern c) (weight c tiny (1 / 1024) 4)) := by
  unfold k0_pay12 k0_pay11
  exact rowStep_col (rowSum_col he (colStep_row (colSum_row he (rowStep_col (rowSum_col he
    (colStep_row (colSum_row he (rowStep_col hs) _ _ _ _ _)) _ _ _ _ _)) _ _ _ _ _)) _ _ _ _ _)

/-- The column weights of the fifth round. -/
theorem pay13 (he : IsMat v43 (kern c)) (hs : IsCol v82 (rowSum (kern c) (weight c tiny (1 / 1024) 2))) :
    IsRow (k0_pay13 v43 v82 k0_pay11) (weight c tiny (1 / 1024) 5) := by
  unfold k0_pay13
  exact colStep_row (colSum_row he (pay12 he hs) _ _ _ _ _)

/-- The stabilised matrix times the scaled cost. -/
theorem pay14 {v21 : FVec Ideal S1024x1024 .f32} (hc : IsMat v21 c) (he : IsMat v43 (kern c)) :
    IsMat (k0_pay14 v21 v43) (fun i j => kern c i j * c i j) := fun i j => by
  unfold k0_pay14
  dsimp only
  rw [mulf_apply, hc, he, EReal.coe_mul]

/-- The loss of one block, at every lane. -/
theorem pay1 {v40 : Ideal .f32} {v118 : FVec Ideal S1024x1 .f32} {v126 : FVec Ideal S1x1024 .f32}
    {v127 : FVec Ideal S1024x1024 .f32} {A : ℝ} {V W : Pts → ℝ} {E : Pts → Pts → ℝ} (hA : v40 = (A : EReal))
    (hv : IsCol v118 V) (hw : IsRow v126 W) (he : IsMat v127 E) (y : S1x1x128.Idx) :
    k0_pay1 v40 v118 v126 v127 y = ((A + (∑ i, V i * ∑ j, E i j * W j) * (eps * 1024) : ℝ) : EReal) := by
  have hx : IsCol (mulf v118 (shapeCast S1024x1 (multiReduction .add [1] S1024
      (mulf v127 (broadcastTo S1024x1024 v126 broadcasts_S1x1024_S1024x1024)) 0x00000000#32 reduces_S1024x1024_S1024
      (.inl rfl) rfl) shapeCasts_S1024_S1024x1)) (fun i => V i * ∑ j, E i j * W j) := fun i => by
    rw [mulf_apply, hv]
    exact (congrArg ((V i : EReal) * ·) (rowSum_col he hw _ _ _ _ _ i)).trans (EReal.coe_mul _ _).symm
  unfold k0_pay1
  refine (congrArg (fun z => Scalar.addf v40 (Scalar.mulf z (Scalar.ofBits .f32 0x424CCCCD#32)))
    (totalCol hx _ _ _ _ _ _)).trans ?_
  rw [hA]
  simp only [scalar_mul, scalar_add, scalar_bits,
    bits_eps_times_count, ← EReal.coe_mul, ← EReal.coe_add]

/-- What one grid point adds: the body's loss of a block of the two clouds. -/
def blockLoss (v0 : Vec Ideal S1x1024x3 .f32) (v2 : Vec Ideal S1x3x1024 .f32) : FVec Ideal S1x1x128 .f32 :=
  k0_pay1 (k0_pay8 (k0_pay7 v0 v2))
    (k0_pay12 (k0_pay9 (k0_pay5 v0 v2) (k0_pay6 v0 v2)) (k0_pay10 (k0_pay5 v0 v2) (k0_pay6 v0 v2)) k0_pay11)
    (k0_pay13 (k0_pay9 (k0_pay5 v0 v2) (k0_pay6 v0 v2)) (k0_pay10 (k0_pay5 v0 v2) (k0_pay6 v0 v2)) k0_pay11)
    (k0_pay14 (k0_pay3 v0 v2) (k0_pay9 (k0_pay5 v0 v2) (k0_pay6 v0 v2)))

/-- THE BLOCK: over real coordinates it is the reference's distance plus transport cost of the two clouds. -/
theorem blockLoss_eq (hP : ∀ i k, v0 (ix3 (0 : Fin 1) i k) = (P i k : EReal))
    (hT : ∀ k j, v2 (ix3 (0 : Fin 1) k j) = (T j k : EReal)) (y : S1x1x128.Idx) :
    blockLoss v0 v2 y = ((chamfer (cost P T) 1024 + transport (cost P T) eps 1024 : ℝ) : EReal) := by
  have h := pay3 hP hT
  have he := pay9 (pay5 h) (pay6 h)
  have hs := pay10 (pay5 h) (pay6 h)
  rw [blockLoss, pay1 (pay8 h) (pay12 he hs) (pay13 he hs) (pay14 h he) y]
  exact congrArg _ (kernelLoss_eq eps_pos inv_eps_mul (by simp) (by norm_num) tiny_le)

end Payloads

end Cert.Block

end
-- ==== Proof.KernelRun.lean ====
/- What the kernel leaves: at the first grid point its block's loss, at each later point that added on, so in the end the sum over the batch; and what the host operations read off it. -/
module

public import proofs.«01_k».proof.Proof.Block
public import proofs.«01_k».proof.Proof.Gen.KernelIdeal.Frame
public import Idealize.ShloMosaic.Lib.Pipeline.Value
public import Idealize.ShloMosaic.Lib.StableHlo.Run
public import Idealize.ShloMosaic.Lib.Tactic

@[expose] public section

noncomputable section

namespace Cert.KernelRun

open Idealize.ShloMosaic Idealize.ShloMosaic.TcCoe Idealize.ShloMosaic.ValueIdx Idealize.SL.Sem
open Idealize.ShloMosaic.Pipeline (Dat)
open Cert.KernelIdeal Cert.KernelIdeal.Gen Cert.RealMath Cert.Lift Cert.Block
open scoped BigOperators

theorem zeros3 : (![0, 0, 0] : Fin 3 → Nat) = fun _ => 0 := funext fun a => by fin_cases a <;> rfl

/-! ## One point -/

section Point
variable (c : Dev nD) (i : grid0.Coords) (a1 : Memref sig .tc .vmem S1x1024x3 .f32) (h1 : a1.IsWhole)
  (a2 : Memref sig .tc .vmem S1x3x1024 .f32) (h2 : a2.IsWhole) (a3 : Memref sig .tc .vmem S1x1x128 .f32) (h3 : a3.IsWhole)
  (x : Vec Ideal S1x1024x3 .f32) (y : Vec Ideal S1x3x1024 .f32)

/-- The first point leaves the loss of its block. -/
theorem first_point (hc : cond0_0 i) (hd : ¬cond0_1 i) :
    out0_A_2 c i a1 h1 a2 h2 a3 h3 hc hd x y = blockLoss x y := by
  unfold out0_A_2
  rw [View.read_writes_eq_canon _ _ _ (cover0_A_2 c i a1 h1 a2 h2 a3 h3 hc hd x y)]
  unfold kernelRun0_A
  dsimp only
  sl_unfold_words
  rw [View.canon_unit_zero zeros3]
  simp only [View.readAt_eq_ld, h1.read_unread, h2.read_unread, View.ld_unit_zero (S := S1x1024x3) zeros3,
    View.ld_unit_zero (S := S1x3x1024) zeros3]
  rfl

/-- A later point adds the loss of its block to what the buffer held. -/
theorem later_point (hc : ¬cond0_0 i) (hd : cond0_1 i) (o : Vec Ideal S1x1x128 .f32) :
    out0_B_2 c i a1 h1 a2 h2 a3 h3 hc hd x y o = addf (shapeCast S1x1x128 o shapeCasts_S1x1x128_S1x1x128) (blockLoss x y) := by
  unfold out0_B_2
  rw [View.read_writes_eq_canon _ _ _ (cover0_B_2 c i a1 h1 a2 h2 a3 h3 hc hd x y o)]
  unfold kernelRun0_B
  dsimp only
  sl_unfold_words
  rw [View.canon_unit_zero zeros3]
  simp only [View.readAt_eq_ld, h1.read_unread, h2.read_unread, h3.read_unread, View.ld_unit_zero (S := S1x1024x3) zeros3,
    View.ld_unit_zero (S := S1x3x1024) zeros3, View.ld_unit_zero (S := S1x1x128) zeros3]
  rfl

end Point

/-! ## The blocks -/

variable (m : (ℓ : Loc nD τ sig) → Buf (Elt Ideal) ℓ) (ρ : Dev nD → PrngReg)

/-- The block index of the first input moves with the point, along the batch. -/
theorem index_pre : ∀ t : Fin cfg0.N, win0_0.index t 0 = t.val ∧ win0_0.index t 1 = 0 ∧ win0_0.index t 2 = 0 := by
  decide +kernel

/-- So does the second's. -/
theorem index_target : ∀ t : Fin cfg0.N, win0_1.index t 0 = t.val ∧ win0_1.index t 1 = 0 ∧ win0_1.index t 2 = 0 := by
  decide +kernel

/-- The batch entry a point works on. -/
def entry (t : Fin cfg0.N) : Fin 8 := ⟨t.val, lt_of_lt_of_eq t.isLt N_0⟩

/-- The first input's block at a point is the predicted cloud of that batch entry. -/
theorem block_pre (c : Dev nD) (t : Fin cfg0.N) (i : Pts) (k : Fin 3) :
    (iblk m c 0 t : Vec Ideal S1x1024x3 .f32) (ix3 (0 : Fin 1) i k)
      = m ((c : Thread nD τ).loc main_arg1) (ix3 (entry t) i k : S8x1024x3.Idx) := by
  obtain ⟨e0, e1, e2⟩ := index_pre t
  unfold iblk
  rw [View.read_apply]
  show V m c main_arg1 _ = _
  rw [V_main_arg1]
  congr 1
  funext a
  apply Fin.ext
  match a with
  | ⟨0, _⟩ => show win0_0.index t 0 * 1 + 1 * 0 = t.val; omega
  | ⟨1, _⟩ => show win0_0.index t 1 * 1024 + 1 * i.val = i.val; omega
  | ⟨2, _⟩ => show win0_0.index t 2 * 3 + 1 * k.val = k.val; omega

/-- The array the second input is cut from is the target, its last two axes exchanged. -/
theorem entry_target (c : Dev nD) :
    V m c main_v0 = transpose S8x3x1024 [0, 2, 1] (m ((c : Thread nD τ).loc main_arg0)) transposes_S8x1024x3_S8x3x1024_0_2_1 := by
  show StableHlo.after hostOps0 (fun b => m (c, b)) (Proc.devRef .tc main_v0) = _
  unfold hostOps0
  after_results

/-- The second input's block at a point is the target cloud of that batch entry, its axes exchanged. -/
theorem block_target (c : Dev nD) (t : Fin cfg0.N) (k : Fin 3) (j : Pts) :
    (iblk m c 1 t : Vec Ideal S1x3x1024 .f32) (ix3 (0 : Fin 1) k j)
      = m ((c : Thread nD τ).loc main_arg0) (ix3 (entry t) j k : S8x1024x3.Idx) := by
  obtain ⟨e0, e1, e2⟩ := index_target t
  unfold iblk
  rw [View.read_apply]
  show V m c main_v0 _ = _
  rw [entry_target]
  refine Eq.trans (congrArg _ ?_) (transpose_ix3_021_apply (m ((c : Thread nD τ).loc main_arg0))
    transposes_S8x1024x3_S8x3x1024_0_2_1 (entry t) k j)
  funext a
  apply Fin.ext
  match a with
  | ⟨0, _⟩ => show win0_1.index t 0 * 1 + 1 * 0 = t.val; omega
  | ⟨1, _⟩ => show win0_1.index t 1 * 3 + 1 * k.val = k.val; omega
  | ⟨2, _⟩ => show win0_1.index t 2 * 1024 + 1 * j.val = j.val; omega

/-! ## The accumulation -/

/-- The loss of one pair of clouds, in reals. -/
def loss (P T : Pts → Fin 3 → ℝ) : ℝ := chamfer (cost P T) 1024 + transport (cost P T) eps 1024

/-- The loss of the batch entry numbered `n`, zero past the batch. -/
def lossAt (P T : Fin 8 → Pts → Fin 3 → ℝ) (n : ℕ) : ℝ := if h : n < 8 then loss (P ⟨n, h⟩) (T ⟨n, h⟩) else 0

variable {m} {c : Dev nD} {P T : Fin 8 → Pts → Fin 3 → ℝ}

/-- One point's addition. -/
theorem blockLoss_at (hP : ∀ b i k, m ((c : Thread nD τ).loc main_arg1) (ix3 b i k : S8x1024x3.Idx) = (P b i k : EReal))
    (hT : ∀ b i k, m ((c : Thread nD τ).loc main_arg0) (ix3 b i k : S8x1024x3.Idx) = (T b i k : EReal))
    (t : Fin cfg0.N) (y : S1x1x128.Idx) :
    blockLoss (iblk m c 0 t) (iblk m c 1 t) y = (lossAt P T t.val : EReal) := by
  rw [blockLoss_eq (P := P (entry t)) (T := T (entry t)) (fun i k => (block_pre m c t i k).trans (hP _ i k))
    (fun k j => (block_target m c t k j).trans (hT _ j k)) y, lossAt, dif_pos (lt_of_lt_of_eq t.isLt N_0)]
  rfl

/-- After point `n` the buffer holds, at every lane, the losses of the batch entries up to `n`. -/
theorem running (hP : ∀ b i k, m ((c : Thread nD τ).loc main_arg1) (ix3 b i k : S8x1024x3.Idx) = (P b i k : EReal))
    (hT : ∀ b i k, m ((c : Thread nD τ).loc main_arg0) (ix3 b i k : S8x1024x3.Idx) = (T b i k : EReal)) :
    ∀ (n : ℕ) (h : n < cfg0.N) (y : S1x1x128.Idx),
      outsAt0 m c n h y = ((∑ b ∈ Finset.range (n + 1), lossAt P T b : ℝ) : EReal)
  | 0, h, y => by
    rw [Finset.sum_range_one]
    have e := (outsAt0_A m c ⟨0, h⟩ rfl (Nat.not_succ_le_zero 0)).trans (first_point ..)
    exact (congrFun e y).trans (blockLoss_at hP hT ⟨0, h⟩ y)
  | n + 1, h, y => by
    have hN : cfg0.N = 8 := N_0
    have e := (outsAt0_B m c ⟨n + 1, h⟩ (by dsimp only; omega) (Nat.le_add_left 1 n)).trans (later_point ..)
    rw [shapeCast_self] at e
    refine (congrFun e y).trans ?_
    rw [addf_apply, blockLoss_at hP hT, Finset.sum_range_succ _ (n + 1), EReal.coe_add]
    exact congrArg (· + _) (running hP hT n _ y)

/-- The whole batch, as one sum. -/
theorem sum_lossAt (P T : Fin 8 → Pts → Fin 3 → ℝ) : ∑ n ∈ Finset.range 8, lossAt P T n = ∑ b, loss (P b) (T b) := by
  rw [← Fin.sum_univ_eq_sum_range]
  exact Finset.sum_congr rfl fun b _ => dif_pos b.isLt

/-! ## The array, and what is read off it -/

/-- The result of the batch, in reals. -/
def total (P T : Fin 8 → Pts → Fin 3 → ℝ) : ℝ := ∑ b, loss (P b) (T b)

/-- The one write-back, after the last point, writes the total at every lane. -/
theorem flushed_total (hP : ∀ b i k, m ((c : Thread nD τ).loc main_arg1) (ix3 b i k : S8x1024x3.Idx) = (P b i k : EReal))
    (hT : ∀ b i k, m ((c : Thread nD τ).loc main_arg0) (ix3 b i k : S8x1024x3.Idx) = (T b i k : EReal))
    (t : Fin cfg0.N) (hf : (cfg0.win 2).flush t = true) :
    (dats m 0 c).flushed 2 t = ((cfg0.win 2).blk t).view.read (Elt Ideal) (fun _ => (total P T : EReal) : Buf (Elt Ideal) ((c : Thread nD τ).loc main_v1)) := by
  have hN : cfg0.N = 8 := N_0
  have h7 : t.val = 7 := by have := (flush0_2 t).mp hf; have := t.isLt; omega
  obtain ⟨n, hn⟩ := t
  subst h7
  show (cfg0.win 2).cut (grid0.coords _) ((dats m 0 c).after 2 _) = _
  rw [after0_2]
  funext y
  refine (running hP hT 7 hn _).trans ?_
  rw [sum_lossAt]
  rfl

/-- The last point. -/
def last : Fin cfg0.N := ⟨7, by rw [show cfg0.N = 8 from N_0]; decide⟩

/-- So the array ends holding the total at every lane. -/
theorem final_total (hP : ∀ b i k, m ((c : Thread nD τ).loc main_arg1) (ix3 b i k : S8x1024x3.Idx) = (P b i k : EReal))
    (hT : ∀ b i k, m ((c : Thread nD τ).loc main_arg0) (ix3 b i k : S8x1024x3.Idx) = (T b i k : EReal)) :
    (dats m 0 c).arrAt 2 cfg0.N = (fun _ => (total P T : EReal) : Buf (Elt Ideal) ((c : Thread nD τ).loc main_v1)) :=
  (dats m 0 c).arrAt_eq_of_cover 2 _ (flushed_total hP hT) fun i =>
    ⟨last, (flush0_2 _).mpr rfl, by
      show i ∈ ((View.whole main_v1).slice (win0_2.rect last)).set
      rw [View.set_slice_whole, Rect.mem_set_unit]
      intro a
      have b0 : (i 0 : Nat) < 1 := (i 0).isLt
      have b1 : (i 1 : Nat) < 1 := (i 1).isLt
      have b2 : (i 2 : Nat) < 128 := (i 2).isLt
      match a with
      | ⟨0, _⟩ => exact ⟨Nat.zero_le _, b0⟩
      | ⟨1, _⟩ => exact ⟨Nat.zero_le _, b1⟩
      | ⟨2, _⟩ => exact ⟨Nat.zero_le _, b2⟩⟩

/-- The host operations after the region read one lane of it. -/
theorem tail_total (hP : ∀ b i k, m ((c : Thread nD τ).loc main_arg1) (ix3 b i k : S8x1024x3.Idx) = (P b i k : EReal))
    (hT : ∀ b i k, m ((c : Thread nD τ).loc main_arg0) (ix3 b i k : S8x1024x3.Idx) = (T b i k : EReal)) :
    Pipeline.afterTail₀ cfgs (dats m) 0 (V0 m) [hostOps1] c main_v3
      = (fun _ => (total P T : EReal) : Buf (Elt Ideal) ((c : Thread nD τ).loc main_v3)) := by
  have ha := (Pipeline.withArrays_arr spec0 launch0.win.arr_inj c (V0 m c) (fun w => (dats m 0 c).arrAt w cfg0.N) 2).trans
    (final_total hP hT)
  unfold Pipeline.afterTail₀
  after_results
  funext y
  exact congrFun ha _

/-- THE RUN: over real inputs the result ends at the total. -/
theorem run (P T : Dev nD → Fin 8 → Pts → Fin 3 → ℝ)
    (hP : ∀ (c : Dev nD) b i k, m ((c.tc : Thread nD τ).loc main_arg1) (ix3 b i k : S8x1024x3.Idx) = (P c b i k : EReal))
    (hT : ∀ (c : Dev nD) b i k, m ((c.tc : Thread nD τ).loc main_arg0) (ix3 b i k : S8x1024x3.Idx) = (T c b i k : EReal)) :
    θ_run defs (onTc (τ := τ) (main (F := Ideal))) ⟨m, fun _ => 0, ρ⟩ fun r => ∀ c : Dev nD,
      r.2.mem ((c.tc : Thread nD τ).loc main_v3) = (fun _ => (total (P c) (T c) : EReal) : Buf (Elt Ideal) ((c.tc : Thread nD τ).loc main_v3)) :=
  (θ_run defs _ _).mono (fun _ h c => ((h c).2 main_v3 (Pipeline.mem_restRefs_of main_v3 (by decide) (by decide))).trans
    (tail_total (hP c) (hT c))) (run_main m ρ)

end Cert.KernelRun

end
-- ==== Proof.RefHalf.lean ====
/- Half a round of the reference, over reals: the potential of one side from the other's, through a logarithm of a sum of exponentials. -/
module

public import Idealize.ShloMosaic.Lib.ValueIdx
public import Idealize.ShloMosaic.Lib.ValueIdxRank1
public import Idealize.ShloMosaic.Lib.IdealHost
public import Idealize.ShloMosaic.Lib.Pipeline.Value
public import Idealize.ShloMosaic.PureOps.Ideal.Laws
public import proofs.«01_k».proof.Proof.Gen.ReferenceIdeal
public import proofs.«01_k».proof.Proof.Lift

@[expose] public section

noncomputable section

namespace Cert.RefHalf

open Idealize.ShloMosaic Idealize.ShloMosaic.ValueIdx Cert.ReferenceIdeal Cert.ReferenceIdeal.Gen Cert.RealMath Cert.Lift
open scoped BigOperators

/-- The points of one cloud. -/
abbrev Pts := Fin 1024

/-- The batch of matrices `x` holds the reals `X`. -/
def IsMats (x : FVec Ideal S8x1024x1024 .f32) (X : Fin 8 → Pts → Pts → ℝ) : Prop := ∀ b i j, x (ix3 b i j) = (X b i j : EReal)

/-- The batch of vectors `x` holds the reals `X`. -/
def IsVecs (x : FVec Ideal S8x1024 .f32) (X : Fin 8 → Pts → ℝ) : Prop := ∀ b i, x (ix2 b i) = (X b i : EReal)

/-! ## Layout -/

/-- A batch of vectors as columns, read. -/
theorem asCols_apply {α : Type} (x : S8x1024.Idx → α) (b : Fin 8) (i : Pts) :
    broadcastInDim S8x1024x1 ![0, 1] bcast_S8x1024_S8x1024x1_0_1 x (ix3 b i (0 : Fin 1)) = x (ix2 b i) :=
  broadcastInDim_apply _ _ x _ _ fun a => match a with | ⟨0, _⟩ => rfl | ⟨1, _⟩ => rfl

/-- A batch of vectors as rows, read. -/
theorem asRows_apply {α : Type} (x : S8x1024.Idx → α) (b : Fin 8) (j : Pts) :
    broadcastInDim S8x1x1024 ![0, 2] bcast_S8x1024_S8x1x1024_0_2 x (ix3 b (0 : Fin 1) j) = x (ix2 b j) :=
  broadcastInDim_apply _ _ x _ _ fun a => match a with | ⟨0, _⟩ => rfl | ⟨1, _⟩ => rfl

/-- Columns spread over matrices, read. -/
theorem colsOver_apply {α : Type} (x : S8x1024x1.Idx → α) (b : Fin 8) (i j : Pts) :
    broadcastInDim S8x1024x1024 ![0, 1, 2] bcast_S8x1024x1_S8x1024x1024_0_1_2 x (ix3 b i j) = x (ix3 b i (0 : Fin 1)) :=
  broadcastInDim_apply _ _ x _ _ fun a => match a with | ⟨0, _⟩ => rfl | ⟨1, _⟩ => rfl | ⟨2, _⟩ => rfl

/-- Rows spread over matrices, read. -/
theorem rowsOver_apply {α : Type} (x : S8x1x1024.Idx → α) (b : Fin 8) (i j : Pts) :
    broadcastInDim S8x1024x1024 ![0, 1, 2] bcast_S8x1x1024_S8x1024x1024_0_1_2 x (ix3 b i j) = x (ix3 b (0 : Fin 1) j) :=
  broadcastInDim_apply _ _ x _ _ fun a => match a with | ⟨0, _⟩ => rfl | ⟨1, _⟩ => rfl | ⟨2, _⟩ => rfl

/-- Columns back to vectors, read. -/
theorem fromCols_apply {α : Type} (x : S8x1024x1.Idx → α) (b : Fin 8) (i : Pts) :
    shapeCast S8x1024 x shapeCasts_S8x1024x1_S8x1024 (ix2 b i) = x (ix3 b i (0 : Fin 1)) :=
  shapeCast_apply x _ _ _ (by
    rw [Shape.rowMajor_val_three, Shape.rowMajor_val_two]
    show (b.val * 1024 + i.val) * 1 + 0 = b.val * 1024 + i.val
    omega)

/-- Rows back to vectors, read. -/
theorem fromRows_apply {α : Type} (x : S8x1x1024.Idx → α) (b : Fin 8) (j : Pts) :
    shapeCast S8x1024 x shapeCasts_S8x1x1024_S8x1024 (ix2 b j) = x (ix3 b (0 : Fin 1) j) :=
  shapeCast_apply x _ _ _ (by
    rw [Shape.rowMajor_val_three, Shape.rowMajor_val_two]
    show (b.val * 1 + 0) * 1024 + j.val = b.val * 1024 + j.val
    omega)

/-! ## Reductions -/

/-- A sum along the rows of a batch of matrices of reals. -/
theorem addRows {x : FVec Ideal S8x1024x1024 .f32} {X : Fin 8 → Pts → Pts → ℝ} (hx : IsMats x X) (b : Fin 8) (i : Pts) :
    Host.reduceAdd x (constant S_ .f32 0x00000000#32) reducesTo_S8x1024x1024_S8x1024_d2 h_S_ (ix2 b i)
      = ((∑ j, X b i j : ℝ) : EReal) := by
  rw [hostReduceAdd_apply, Ideal.hostReduceAdd_single _ (by decide), constant_apply, bits_zero,
    EReal.coe_zero, zero_add, ← sum_coe]
  refine Finset.sum_congr rfl fun k _ => Eq.trans ?_ (hx b i k)
  exact congrArg x (funext fun a => Fin.ext (match a with | ⟨0, _⟩ => rfl | ⟨1, _⟩ => rfl | ⟨2, _⟩ => rfl))

/-- A sum along the columns. -/
theorem addCols {x : FVec Ideal S8x1024x1024 .f32} {X : Fin 8 → Pts → Pts → ℝ} (hx : IsMats x X) (b : Fin 8) (j : Pts) :
    Host.reduceAdd x (constant S_ .f32 0x00000000#32) reducesTo_S8x1024x1024_S8x1024_d1 h_S_ (ix2 b j)
      = ((∑ i, X b i j : ℝ) : EReal) := by
  rw [hostReduceAdd_apply, Ideal.hostReduceAdd_single _ (by decide), constant_apply, bits_zero,
    EReal.coe_zero, zero_add, ← sum_coe]
  refine Finset.sum_congr rfl fun k _ => Eq.trans ?_ (hx b k j)
  exact congrArg x (funext fun a => Fin.ext (match a with | ⟨0, _⟩ => rfl | ⟨1, _⟩ => rfl | ⟨2, _⟩ => rfl))

/-- The largest element of a row of reals is a real. -/
theorem maxRows {x : FVec Ideal S8x1024x1024 .f32} {X : Fin 8 → Pts → Pts → ℝ} (hx : IsMats x X) (b : Fin 8) (i : Pts) :
    ∃ m : ℝ, Host.reduce FloatOps.maximumf x (constant S_ .f32 0xFF800000#32) reducesTo_S8x1024x1024_S8x1024_d2 h_S_ (ix2 b i)
      = (m : EReal) := by
  obtain ⟨m, hm⟩ := fold_max_coe fun j => X b i j
  refine ⟨m, Eq.trans ?_ hm⟩
  rw [Host.reduce_eq_fold_single _ _ _ _ (by decide), constant_apply, bits_bot]
  refine Finset.fold_congr (op := max) fun k _ => Eq.trans ?_ (hx b i k)
  exact congrArg x (funext fun a => Fin.ext (match a with | ⟨0, _⟩ => rfl | ⟨1, _⟩ => rfl | ⟨2, _⟩ => rfl))

/-- The largest element of a column of reals is a real. -/
theorem maxCols {x : FVec Ideal S8x1024x1024 .f32} {X : Fin 8 → Pts → Pts → ℝ} (hx : IsMats x X) (b : Fin 8) (j : Pts) :
    ∃ m : ℝ, Host.reduce FloatOps.maximumf x (constant S_ .f32 0xFF800000#32) reducesTo_S8x1024x1024_S8x1024_d1 h_S_ (ix2 b j)
      = (m : EReal) := by
  obtain ⟨m, hm⟩ := fold_max_coe fun i => X b i j
  refine ⟨m, Eq.trans ?_ hm⟩
  rw [Host.reduce_eq_fold_single _ _ _ _ (by decide), constant_apply, bits_bot]
  refine Finset.fold_congr (op := max) fun k _ => Eq.trans ?_ (hx b k j)
  exact congrArg x (funext fun a => Fin.ext (match a with | ⟨0, _⟩ => rfl | ⟨1, _⟩ => rfl | ⟨2, _⟩ => rfl))

/-- The least element of a row of reals. -/
theorem minRows {x : FVec Ideal S8x1024x1024 .f32} {X : Fin 8 → Pts → Pts → ℝ} (hx : IsMats x X) :
    IsVecs (Host.reduce FloatOps.minimumf x (constant S_ .f32 0x7F800000#32) reducesTo_S8x1024x1024_S8x1024_d2 h_S_)
      (fun b i => least fun j => X b i j) := fun b i => by
  refine Eq.trans ?_ (fold_min_coe fun j => X b i j)
  rw [Host.reduce_eq_fold_single _ _ _ _ (by decide), constant_apply, bits_top]
  refine Finset.fold_congr (op := min) fun k _ => Eq.trans ?_ (hx b i k)
  exact congrArg x (funext fun a => Fin.ext (match a with | ⟨0, _⟩ => rfl | ⟨1, _⟩ => rfl | ⟨2, _⟩ => rfl))

/-- The least element of a column of reals. -/
theorem minCols {x : FVec Ideal S8x1024x1024 .f32} {X : Fin 8 → Pts → Pts → ℝ} (hx : IsMats x X) :
    IsVecs (Host.reduce FloatOps.minimumf x (constant S_ .f32 0x7F800000#32) reducesTo_S8x1024x1024_S8x1024_d1 h_S_)
      (fun b j => least fun i => X b i j) := fun b j => by
  refine Eq.trans ?_ (fold_min_coe fun i => X b i j)
  rw [Host.reduce_eq_fold_single _ _ _ _ (by decide), constant_apply, bits_top]
  refine Finset.fold_congr (op := min) fun k _ => Eq.trans ?_ (hx b k j)
  exact congrArg x (funext fun a => Fin.ext (match a with | ⟨0, _⟩ => rfl | ⟨1, _⟩ => rfl | ⟨2, _⟩ => rfl))

/-! ## The pieces of a half round -/

/-- Minus the logarithm of the count, for every point of every batch entry. -/
def logMass : FVec Ideal S8x1024 .f32 :=
  broadcastInDim S8x1024 ![0, 1] bcast_S1x1024_S8x1024_0_1 (broadcastInDim S1x1024 ![1] bcast_S1024_S1x1024_1
    (broadcastInDim S1024 ![] bcast_S_S1024 (Host.negf (Host.log (constant S_ .f32 0x44800000#32)))))

theorem logMass_real : IsVecs logMass (fun _ _ => -Real.log 1024) := fun b i => by
  refine (broadcastInDim_apply _ _ _ (ix2 b i) (ix2 (0 : Fin 1) i) fun a => match a with | ⟨0, _⟩ => rfl | ⟨1, _⟩ => rfl).trans ?_
  refine (broadcastInDim_apply _ _ _ _ (ix1 i) fun a => match a with | ⟨0, _⟩ => rfl).trans ?_
  rw [broadcastInDim_scalar_apply]
  show -Ideal.log (Ideal.ofBits .f32 0x44800000#32) = _
  rw [bits_count, log_coe_pos (by norm_num), EReal.coe_neg]

/-- A batch of matrices less the cost, in units of `eps`. -/
def score (a c : FVec Ideal S8x1024x1024 .f32) : FVec Ideal S8x1024x1024 .f32 :=
  Host.divf (subf a c) (broadcastInDim S8x1024x1024 ![] bcast_S_S8x1024x1024 (constant S_ .f32 0x3D4CCCCD#32))

theorem score_real {a c : FVec Ideal S8x1024x1024 .f32} {A C : Fin 8 → Pts → Pts → ℝ} (ha : IsMats a A) (hc : IsMats c C) :
    IsMats (score a c) (fun b i j => (A b i j - C b i j) / eps) := fun b i j => by
  show Ideal.div (a (ix3 b i j) - c (ix3 b i j))
    (broadcastInDim S8x1024x1024 ![] bcast_S_S8x1024x1024 (constant (F := Ideal) S_ .f32 0x3D4CCCCD#32) (ix3 b i j)) = _
  rw [broadcastInDim_scalar_apply, constant_apply, ha, hc, ← EReal.coe_sub, bits_eps, div_coe_coe _ eps_pos.ne']

/-- A column of maxima, the infinite ones replaced by zero. -/
def guardCols (m : FVec Ideal S8x1024x1 .f32) : FVec Ideal S8x1024x1 .f32 :=
  select (cmpf .olt (Host.absf m) (broadcastInDim S8x1024x1 ![] bcast_S_S8x1024x1 (constant S_ .f32 0x7F800000#32))) m
    (broadcastInDim S8x1024x1 ![1, 2] bcast_S1024x1_S8x1024x1_1_2
      (broadcastInDim S1024x1 ![] bcast_S_S1024x1 (id (constant S_ .f32 0x00000000#32))))

/-- A row of maxima, the infinite ones replaced by zero. -/
def guardRows (m : FVec Ideal S8x1x1024 .f32) : FVec Ideal S8x1x1024 .f32 :=
  select (cmpf .olt (Host.absf m) (broadcastInDim S8x1x1024 ![] bcast_S_S8x1x1024 (constant S_ .f32 0x7F800000#32))) m
    (broadcastInDim S8x1x1024 ![1, 2] bcast_S1x1024_S8x1x1024_1_2
      (broadcastInDim S1x1024 ![] bcast_S_S1x1024 (id (constant S_ .f32 0x00000000#32))))

/-- A real compares below infinity. -/
theorem below_top (r : ℝ) : Ideal.cmp .olt (max (r : EReal) (-(r : EReal))) (Ideal.ofBits .f32 0x7F800000#32) = 1#1 := by
  rw [bits_top, abs_coe]
  simp [Ideal.cmp, EReal.coe_lt_top]

theorem guardCols_real {m : FVec Ideal S8x1024x1 .f32} {b : Fin 8} {i : Pts} {r : ℝ} (h : m (ix3 b i (0 : Fin 1)) = (r : EReal)) :
    guardCols m (ix3 b i (0 : Fin 1)) = (r : EReal) := by
  unfold guardCols
  rw [select_apply, cmpf_apply, broadcastInDim_scalar_apply, constant_apply]
  show Scalar.select (Ideal.cmp .olt (max (m (ix3 b i (0 : Fin 1))) (-(m (ix3 b i (0 : Fin 1))))) (Ideal.ofBits .f32 0x7F800000#32)) _ _ = _
  rw [h, below_top, select_one]

theorem guardRows_real {m : FVec Ideal S8x1x1024 .f32} {b : Fin 8} {j : Pts} {r : ℝ} (h : m (ix3 b (0 : Fin 1) j) = (r : EReal)) :
    guardRows m (ix3 b (0 : Fin 1) j) = (r : EReal) := by
  unfold guardRows
  rw [select_apply, cmpf_apply, broadcastInDim_scalar_apply, constant_apply]
  show Scalar.select (Ideal.cmp .olt (max (m (ix3 b (0 : Fin 1) j)) (-(m (ix3 b (0 : Fin 1) j)))) (Ideal.ofBits .f32 0x7F800000#32)) _ _ = _
  rw [h, below_top, select_one]

/-- The potential from the logarithms. -/
def potential (l : FVec Ideal S8x1024 .f32) : FVec Ideal S8x1024 .f32 :=
  mulf (broadcastInDim S8x1024 ![] bcast_S_S8x1024 (constant S_ .f32 0x3D4CCCCD#32)) (subf logMass l)

theorem potential_real {l : FVec Ideal S8x1024 .f32} {L : Fin 8 → Pts → ℝ} (hl : IsVecs l L) :
    IsVecs (potential l) (fun b i => eps * (-Real.log 1024 - L b i)) := fun b i => by
  unfold potential
  rw [mulf_apply, subf_apply, broadcastInDim_scalar_apply, constant_apply, logMass_real, hl, bits_eps, ← EReal.coe_sub, ← EReal.coe_mul]

/-- The logarithm of a sum of exponentials taken out of the shift `m`. -/
theorem shifted_log {x : EReal} (s : Pts → ℝ) (m : ℝ) (hx : x = ((∑ k, Real.exp (s k - m) : ℝ) : EReal)) :
    Ideal.log (max x (-x)) + (m : EReal) = ((Real.log (∑ k, Real.exp (s k)) : ℝ) : EReal) := by
  have hpos := sum_exp_pos fun k => s k - m
  rw [hx, abs_coe, abs_of_pos hpos, log_coe_pos hpos, ← EReal.coe_add, log_sum_exp_shift]

/-! ## A half round -/

/-- The logarithms of the row sums of exponentials. -/
def logRows (s : FVec Ideal S8x1024x1024 .f32) (m : FVec Ideal S8x1024x1 .f32) : FVec Ideal S8x1024 .f32 :=
  addf (Host.log (Host.absf (Host.reduceAdd (Host.exp (subf s
      (broadcastInDim S8x1024x1024 ![0, 1, 2] bcast_S8x1024x1_S8x1024x1024_0_1_2 m)))
      (constant S_ .f32 0x00000000#32) reducesTo_S8x1024x1024_S8x1024_d2 h_S_)))
    (shapeCast S8x1024 m shapeCasts_S8x1024x1_S8x1024)

/-- The logarithms of the column sums of exponentials. -/
def logCols (s : FVec Ideal S8x1024x1024 .f32) (m : FVec Ideal S8x1x1024 .f32) : FVec Ideal S8x1024 .f32 :=
  addf (Host.log (Host.absf (Host.reduceAdd (Host.exp (subf s
      (broadcastInDim S8x1024x1024 ![0, 1, 2] bcast_S8x1x1024_S8x1024x1024_0_1_2 m)))
      (constant S_ .f32 0x00000000#32) reducesTo_S8x1024x1024_S8x1024_d1 h_S_)))
    (shapeCast S8x1024 m shapeCasts_S8x1x1024_S8x1024)

theorem logRows_real {s : FVec Ideal S8x1024x1024 .f32} {m : FVec Ideal S8x1024x1 .f32} {S : Fin 8 → Pts → Pts → ℝ}
    {M : Fin 8 → Pts → ℝ} (hs : IsMats s S) (hm : ∀ b i, m (ix3 b i (0 : Fin 1)) = (M b i : EReal)) :
    IsVecs (logRows s m) (fun b i => Real.log (∑ j, Real.exp (S b i j))) := fun b i => by
  have he : IsMats (Host.exp (subf s (broadcastInDim S8x1024x1024 ![0, 1, 2] bcast_S8x1024x1_S8x1024x1024_0_1_2 m)))
      (fun b i j => Real.exp (S b i j - M b i)) := fun b i j => by
    show Ideal.exp (s (ix3 b i j) - broadcastInDim S8x1024x1024 ![0, 1, 2] bcast_S8x1024x1_S8x1024x1024_0_1_2 m (ix3 b i j)) = _
    rw [colsOver_apply, hs, hm, ← EReal.coe_sub, Ideal.exp_coe]
  unfold logRows
  rw [addf_apply, fromCols_apply, hm]
  exact shifted_log (S b i) (M b i) (addRows he b i)

theorem logCols_real {s : FVec Ideal S8x1024x1024 .f32} {m : FVec Ideal S8x1x1024 .f32} {S : Fin 8 → Pts → Pts → ℝ}
    {M : Fin 8 → Pts → ℝ} (hs : IsMats s S) (hm : ∀ b j, m (ix3 b (0 : Fin 1) j) = (M b j : EReal)) :
    IsVecs (logCols s m) (fun b j => Real.log (∑ i, Real.exp (S b i j))) := fun b j => by
  have he : IsMats (Host.exp (subf s (broadcastInDim S8x1024x1024 ![0, 1, 2] bcast_S8x1x1024_S8x1024x1024_0_1_2 m)))
      (fun b i j => Real.exp (S b i j - M b j)) := fun b i j => by
    show Ideal.exp (s (ix3 b i j) - broadcastInDim S8x1024x1024 ![0, 1, 2] bcast_S8x1x1024_S8x1024x1024_0_1_2 m (ix3 b i j)) = _
    rw [rowsOver_apply, hs, hm, ← EReal.coe_sub, Ideal.exp_coe]
  unfold logCols
  rw [addf_apply, fromRows_apply, hm]
  exact shifted_log (fun i => S b i j) (M b j) (addCols he b j)

/-- The row potentials from the spread column potentials `a` and the cost `c`. -/
def rowHalf (a c : FVec Ideal S8x1024x1024 .f32) : FVec Ideal S8x1024 .f32 :=
  potential (logRows (score a c) (guardCols (broadcastInDim S8x1024x1 ![0, 1] bcast_S8x1024_S8x1024x1_0_1
    (Host.reduce FloatOps.maximumf (score a c) (constant S_ .f32 0xFF800000#32) reducesTo_S8x1024x1024_S8x1024_d2 h_S_))))

/-- The column potentials from the spread row potentials `a` and the cost `c`. -/
def colHalf (a c : FVec Ideal S8x1024x1024 .f32) : FVec Ideal S8x1024 .f32 :=
  potential (logCols (score a c) (guardRows (broadcastInDim S8x1x1024 ![0, 2] bcast_S8x1024_S8x1x1024_0_2
    (Host.reduce FloatOps.maximumf (score a c) (constant S_ .f32 0xFF800000#32) reducesTo_S8x1024x1024_S8x1024_d1 h_S_))))

variable {a c : FVec Ideal S8x1024x1024 .f32} {C : Fin 8 → Pts → Pts → ℝ}

theorem rowHalf_real {G : Fin 8 → Pts → ℝ} (ha : IsMats a (fun b _ j => G b j)) (hc : IsMats c C) :
    IsVecs (rowHalf a c) (fun b => rowPot (C b) eps 1024 (G b)) := by
  have hs := score_real ha hc
  choose M hM using maxRows hs
  exact potential_real (logRows_real hs fun b i => guardCols_real ((asCols_apply _ b i).trans (hM b i)))

theorem colHalf_real {G : Fin 8 → Pts → ℝ} (ha : IsMats a (fun b i _ => G b i)) (hc : IsMats c C) :
    IsVecs (colHalf a c) (fun b => colPot (C b) eps 1024 (G b)) := by
  have hs := score_real ha hc
  choose M hM using maxCols hs
  exact potential_real (logCols_real hs fun b j => guardRows_real ((asRows_apply _ b j).trans (hM b j)))

/-- A batch of vectors spread along the rows of matrices. -/
def alongRows (g : FVec Ideal S8x1024 .f32) : FVec Ideal S8x1024x1024 .f32 :=
  broadcastInDim S8x1024x1024 ![0, 1, 2] bcast_S8x1x1024_S8x1024x1024_0_1_2
    (broadcastInDim S8x1x1024 ![0, 2] bcast_S8x1024_S8x1x1024_0_2 g)

/-- A batch of vectors spread along the columns of matrices. -/
def alongCols (f : FVec Ideal S8x1024 .f32) : FVec Ideal S8x1024x1024 .f32 :=
  broadcastInDim S8x1024x1024 ![0, 1, 2] bcast_S8x1024x1_S8x1024x1024_0_1_2
    (broadcastInDim S8x1024x1 ![0, 1] bcast_S8x1024_S8x1024x1_0_1 f)

theorem alongRows_real {g : FVec Ideal S8x1024 .f32} {G : Fin 8 → Pts → ℝ} (hg : IsVecs g G) :
    IsMats (alongRows g) (fun b _ j => G b j) := fun b i j =>
  (rowsOver_apply _ b i j).trans ((asRows_apply g b j).trans (hg b j))

theorem alongCols_real {f : FVec Ideal S8x1024 .f32} {G : Fin 8 → Pts → ℝ} (hf : IsVecs f G) :
    IsMats (alongCols f) (fun b i _ => G b i) := fun b i j =>
  (colsOver_apply _ b i j).trans ((asCols_apply f b i).trans (hf b i))

/-- A whole round: from the column potentials of round `k` the row potentials, and from those the next column potentials. -/
theorem round_real {f g h : FVec Ideal S8x1024 .f32} (k : ℕ) (hc : IsMats c C)
    (hg : IsVecs g (fun b => pot (C b) eps 1024 k)) (hf : f = rowHalf (alongRows g) c) (hh : h = colHalf (alongCols f) c) :
    IsVecs f (fun b => rowPot (C b) eps 1024 (pot (C b) eps 1024 k)) ∧ IsVecs h (fun b => pot (C b) eps 1024 (k + 1)) := by
  have h1 : IsVecs f (fun b => rowPot (C b) eps 1024 (pot (C b) eps 1024 k)) := hf ▸ rowHalf_real (alongRows_real hg) hc
  exact ⟨h1, hh ▸ colHalf_real (alongCols_real h1) hc⟩

end Cert.RefHalf

end
-- ==== Proof.RefValue.lean ====
/- What the reference leaves: over real inputs the distances and the transport costs of the batch, added up. -/
module

public import proofs.«01_k».proof.Proof.RefHalf
public import proofs.«01_k».proof.Proof.Gen.ReferenceIdeal.Read

@[expose] public section

noncomputable section

namespace Cert.RefValue

open Idealize.ShloMosaic Idealize.ShloMosaic.ValueIdx
open Cert.ReferenceIdeal Cert.ReferenceIdeal.Gen Cert.ReferenceIdeal.Read Cert.RealMath Cert.Lift Cert.RefHalf
open scoped BigOperators

/-- A sum over a batch's indices is the sum over the batch. -/
theorem sum_batch (f : S8.Idx → EReal) : ∑ i, f i = ∑ b : Fin 8, f (ix1 b) :=
  (Equiv.sum_comp idxEquiv1.symm f).symm

/-- A sum over the selected members of one family, counted by another family. -/
theorem sum_selected {α β : Type} [Fintype α] [Fintype β] {p : α → Prop} [DecidablePred p] {f : α → EReal} {g : β → EReal}
    (u : α → β) (v : β → α) (h1 : ∀ y, p (v y)) (h2 : ∀ a, p a → v (u a) = a) (h3 : ∀ y, u (v y) = y)
    (h : ∀ a, p a → f a = g (u a)) : ∑ a ∈ Finset.univ.filter p, f a = ∑ y, g y :=
  Finset.sum_bij' (fun a _ => u a) (fun y _ => v y) (fun _ _ => Finset.mem_univ _)
    (fun y _ => Finset.mem_filter.2 ⟨Finset.mem_univ _, h1 y⟩) (fun a ha => h2 a (Finset.mem_filter.1 ha).2)
    (fun y _ => h3 y) fun a ha => h a (Finset.mem_filter.1 ha).2

/-- The place of an element in its matrix. -/
def place (i : S8x1024x1024.Idx) : Pts × Pts := (i 1, i 2)

/-- A sum over both axes of each matrix of reals of a batch. -/
theorem addMats {x : FVec Ideal S8x1024x1024 .f32} {X : Fin 8 → Pts → Pts → ℝ} (hx : IsMats x X) (b : Fin 8) :
    Host.reduceAdd x (constant S_ .f32 0x00000000#32) reducesTo_S8x1024x1024_S8_d1_2 h_S_ (ix1 b)
      = ((∑ i, ∑ j, X b i j : ℝ) : EReal) := by
  have hd : ∀ i : S8x1024x1024.Idx, reducesTo_S8x1024x1024_S8_d1_2.drop i = ix1 b ↔ i 0 = b := fun i => by
    have hv : (reducesTo_S8x1024x1024_S8_d1_2.drop i 0 : Nat) = i 0 := Shape.ReducesTo.drop_apply_val _ i 0
    constructor
    · intro e
      exact Fin.ext (hv.symm.trans (congrArg (fun j : S8.Idx => (j 0 : Nat)) e))
    · intro e
      exact funext fun a => match a with | ⟨0, _⟩ => Fin.ext (hv.trans (congrArg Fin.val e))
  rw [hostReduceAdd_apply, Ideal.hostReduceAdd, constant_apply, bits_zero,
    EReal.coe_zero, zero_add]
  have hr : ((∑ i, ∑ j, X b i j : ℝ) : EReal) = ∑ p : Pts × Pts, (X b p.1 p.2 : EReal) := by
    rw [sum_coe, Fintype.sum_prod_type]
  rw [hr]
  refine sum_selected place (fun p => ix3 b p.1 p.2) (fun p => (hd _).2 rfl) (fun i hi => ?_) (fun p => rfl) fun i hi => ?_
  · have e := (hd i).1 hi
    exact funext fun a => match a with | ⟨0, _⟩ => e.symm | ⟨1, _⟩ => rfl | ⟨2, _⟩ => rfl
  · have e := (hd i).1 hi
    refine Eq.trans (congrArg x ?_) (hx b (i 1) (i 2))
    exact funext fun a => match a with | ⟨0, _⟩ => e | ⟨1, _⟩ => rfl | ⟨2, _⟩ => rfl

variable {x0 x1 : FVec Ideal S8x1024x3 .f32} {P T : Fin 8 → Pts → Fin 3 → ℝ}

/-! ## The cost -/

/-- The multiplied-out squared distances. -/
theorem v13_real (hP : ∀ b i k, x1 (ix3 b i k) = (P b i k : EReal)) (hT : ∀ b i k, x0 (ix3 b i k) = (T b i k : EReal)) :
    IsMats (val_main_v13 (F := Ideal) x0 x1) (fun b => cost (P b) (T b)) := fun b i j => by
  have e1 : ∀ k, val_main_v0 (F := Ideal) x1 (idx_main_v1 (idx_main_v2 (idx_main_v6 (ix3 b i j))) k)
      = ((P b i k * P b i k : ℝ) : EReal) := fun k => by
    rw [val_main_v0_apply, show idx_main_v1 (idx_main_v2 (idx_main_v6 (ix3 b i j))) k = ix3 b i k from
      funext fun a => match a with | ⟨0, _⟩ => rfl | ⟨1, _⟩ => rfl | ⟨2, _⟩ => rfl, hP, EReal.coe_mul]
    rfl
  have e2 : ∀ k, val_main_v3 (F := Ideal) x0 (idx_main_v4 (idx_main_v5 (idx_main_v7 (ix3 b i j))) k)
      = ((T b j k * T b j k : ℝ) : EReal) := fun k => by
    rw [val_main_v3_apply, show idx_main_v4 (idx_main_v5 (idx_main_v7 (ix3 b i j))) k = ix3 b j k from
      funext fun a => match a with | ⟨0, _⟩ => rfl | ⟨1, _⟩ => rfl | ⟨2, _⟩ => rfl, hT, EReal.coe_mul]
    rfl
  have e3 : ∀ k, x1 (lidx_main_v10 (ix3 b i j) k) * val_main_v9 (F := Ideal) x0 (ridx_main_v10 (ix3 b i j) k)
      = ((P b i k * T b j k : ℝ) : EReal) := fun k => by
    rw [val_main_v9_apply, show lidx_main_v10 (ix3 b i j) k = ix3 b i k from
      funext fun a => match a with | ⟨0, _⟩ => rfl | ⟨1, _⟩ => rfl | ⟨2, _⟩ => rfl,
      show idx_main_v9 (ridx_main_v10 (ix3 b i j) k) = ix3 b j k from
      funext fun a => match a with | ⟨0, _⟩ => rfl | ⟨1, _⟩ => rfl | ⟨2, _⟩ => rfl, hP, hT, EReal.coe_mul]
  rw [val_main_v13_apply, val_main_v8_apply, val_main_v6_apply, val_main_v2_apply, val_main_v1_apply, val_main_v7_apply,
    val_main_v5_apply, val_main_v4_apply, val_main_v12_apply, val_main_v11_apply, val_main_v10_apply, val_main_cst_apply,
    val_main_cst_0_apply, val_main_cst_1_apply, Finset.sum_congr rfl fun k _ => e1 k, Finset.sum_congr rfl fun k _ => e2 k,
    Finset.sum_congr rfl fun k _ => e3 k, sum_coe, sum_coe, sum_coe]
  show ((Ideal.ofBits .f32 0x00000000#32 + _) + (Ideal.ofBits .f32 0x00000000#32 + _)) - Ideal.ofBits .f32 0x40000000#32 * _ = (_ : EReal)
  rw [bits_zero, bits_two, EReal.coe_zero, zero_add, zero_add, ← EReal.coe_add, ← EReal.coe_mul, ← EReal.coe_sub]
  rfl

/-- Keeping them at least zero changes nothing. -/
theorem v15_real (hP : ∀ b i k, x1 (ix3 b i k) = (P b i k : EReal)) (hT : ∀ b i k, x0 (ix3 b i k) = (T b i k : EReal)) :
    IsMats (val_main_v15 (F := Ideal) x0 x1) (fun b => cost (P b) (T b)) := fun b i j => by
  rw [val_main_v15_apply, v13_real hP hT, val_main_v14_apply, val_main_cst_2_apply]
  show max _ (Ideal.ofBits .f32 0x00000000#32) = _
  rw [bits_zero, max_coe, max_eq_left (cost_nonneg _ _ _ _)]

/-! ## The distances -/

/-- The distance of each batch entry, both directions. -/
theorem v26_real (hP : ∀ b i k, x1 (ix3 b i k) = (P b i k : EReal)) (hT : ∀ b i k, x0 (ix3 b i k) = (T b i k : EReal)) (b : Fin 8) :
    val_main_v26 (F := Ideal) x0 x1 (ix1 b) = (chamfer (cost (P b) (T b)) 1024 : EReal) := by
  have hc := v15_real hP hT
  have e1 : ∀ k, val_main_v16 (F := Ideal) x0 x1 (idx_main_v18 (ix1 b) k) = ((least fun j => cost (P b) (T b) k j : ℝ) : EReal) := fun k =>
    (congrArg _ (funext fun a => match a with | ⟨0, _⟩ => rfl | ⟨1, _⟩ => rfl)).trans (minRows hc b k)
  have e2 : ∀ k, val_main_v17 (F := Ideal) x0 x1 (idx_main_v21 (ix1 b) k) = ((least fun i => cost (P b) (T b) i k : ℝ) : EReal) := fun k =>
    (congrArg _ (funext fun a => match a with | ⟨0, _⟩ => rfl | ⟨1, _⟩ => rfl)).trans (minCols hc b k)
  rw [val_main_v26_apply, val_main_v20_apply, val_main_v18_apply, val_main_v19_apply, val_main_v25_apply, val_main_v24_apply,
    val_main_v23_apply, val_main_v21_apply, val_main_v22_apply, val_main_cst_5_apply, val_main_cst_6_apply, val_main_cst_7_apply,
    val_main_cst_8_apply, val_main_cst_9_apply, Finset.sum_congr rfl fun k _ => e1 k, Finset.sum_congr rfl fun k _ => e2 k,
    sum_coe, sum_coe]
  show Ideal.div (Ideal.ofBits .f32 0x00000000#32 + _) (Ideal.ofBits .f32 0x44800000#32)
    + Ideal.ofBits .f32 0x3F000000#32 * Ideal.div (Ideal.ofBits .f32 0x00000000#32 + _) (Ideal.ofBits .f32 0x44800000#32) = (_ : EReal)
  rw [bits_zero, bits_count, bits_half, EReal.coe_zero, zero_add, zero_add, div_coe_coe _ (by norm_num), div_coe_coe _ (by norm_num),
    ← EReal.coe_mul, ← EReal.coe_add]
  rfl

/-! ## The transport costs -/

/-- The potentials start at zero. -/
theorem v54_real : IsMats (val_main_v54 (F := Ideal)) (fun _ _ _ => 0) := fun b i j => by
  rw [val_main_v54_apply, val_main_v53_apply, val_main_v52_apply, val_main_v51_apply, val_main_cst_18_apply]
  exact bits_zero

/-- The potentials of the last round. -/
theorem last_round (hP : ∀ b i k, x1 (ix3 b i k) = (P b i k : EReal)) (hT : ∀ b i k, x0 (ix3 b i k) = (T b i k : EReal)) :
    IsVecs (val_main_v277 (F := Ideal) x0 x1) (fun b => rowPot (cost (P b) (T b)) eps 1024 (pot (cost (P b) (T b)) eps 1024 4))
      ∧ IsVecs (val_main_v302 (F := Ideal) x0 x1) (fun b => pot (cost (P b) (T b)) eps 1024 5) := by
  have hc : IsMats (val_main_v43 (F := Ideal) x0 x1) (fun b => cost (P b) (T b)) := v15_real hP hT
  have f1 : IsVecs (val_main_v77 (F := Ideal) x0 x1) (fun b => rowPot (cost (P b) (T b)) eps 1024 (pot (cost (P b) (T b)) eps 1024 0)) :=
    rowHalf_real v54_real hc
  have g1 : IsVecs (val_main_v102 (F := Ideal) x0 x1) (fun b => pot (cost (P b) (T b)) eps 1024 1) :=
    colHalf_real (alongCols_real f1) hc
  have g2 := (round_real (f := val_main_v127 (F := Ideal) x0 x1) (h := val_main_v152 (F := Ideal) x0 x1) 1 hc g1 rfl rfl).2
  have g3 := (round_real (f := val_main_v177 (F := Ideal) x0 x1) (h := val_main_v202 (F := Ideal) x0 x1) 2 hc g2 rfl rfl).2
  have g4 := (round_real (f := val_main_v227 (F := Ideal) x0 x1) (h := val_main_v252 (F := Ideal) x0 x1) 3 hc g3 rfl rfl).2
  exact round_real (f := val_main_v277 (F := Ideal) x0 x1) (h := val_main_v302 (F := Ideal) x0 x1) 4 hc g4 rfl rfl

/-- The transported cost, element by element. -/
theorem v312_real (hP : ∀ b i k, x1 (ix3 b i k) = (P b i k : EReal)) (hT : ∀ b i k, x0 (ix3 b i k) = (T b i k : EReal)) :
    IsMats (val_main_v312 (F := Ideal) x0 x1) (fun b i j =>
      Real.exp ((rowPot (cost (P b) (T b)) eps 1024 (pot (cost (P b) (T b)) eps 1024 4) i + pot (cost (P b) (T b)) eps 1024 5 j
        - cost (P b) (T b) i j) / eps) * cost (P b) (T b) i j) := fun b i j => by
  have hc : IsMats (val_main_v43 (F := Ideal) x0 x1) (fun b => cost (P b) (T b)) := v15_real hP hT
  obtain ⟨hf, hg⟩ := last_round hP hT
  have e1 : val_main_v305 (F := Ideal) x0 x1 (ix3 b i j) = _ := alongCols_real hf b i j
  have e2 : val_main_v306 (F := Ideal) x0 x1 (ix3 b i j) = _ := alongRows_real hg b i j
  rw [val_main_v312_apply, val_main_v311_apply, val_main_v310_apply, val_main_v309_apply, val_main_v308_apply, val_main_v307_apply,
    val_main_cst_79_apply, e1, e2, hc]
  show Ideal.exp (Ideal.div ((_ + _) - _) (Ideal.ofBits .f32 0x3D4CCCCD#32)) * _ = (_ : EReal)
  rw [bits_eps, ← EReal.coe_add, ← EReal.coe_sub, div_coe_coe _ eps_pos.ne', Ideal.exp_coe, ← EReal.coe_mul]

/-- The transport cost of each batch entry. -/
theorem v315_real (hP : ∀ b i k, x1 (ix3 b i k) = (P b i k : EReal)) (hT : ∀ b i k, x0 (ix3 b i k) = (T b i k : EReal)) (b : Fin 8) :
    val_main_v315 (F := Ideal) x0 x1 (ix1 b) = (transport (cost (P b) (T b)) eps 1024 : EReal) := by
  have e : val_main_v313 (F := Ideal) x0 x1 (ix1 b) = _ := addMats (v312_real hP hT) b
  rw [val_main_v315_apply, val_main_v314_apply, val_main_cst_81_apply, e]
  show _ * Ideal.ofBits .f32 0x44800000#32 = (_ : EReal)
  rw [bits_count, ← EReal.coe_mul]
  rfl

/-- THE REFERENCE: the distances and the transport costs, added up over the batch. -/
theorem v317_real (hP : ∀ b i k, x1 (ix3 b i k) = (P b i k : EReal)) (hT : ∀ b i k, x0 (ix3 b i k) = (T b i k : EReal)) :
    val_main_v317 (F := Ideal) x0 x1
      = fun _ => ((∑ b, (chamfer (cost (P b) (T b)) 1024 + transport (cost (P b) (T b)) eps 1024) : ℝ) : EReal) := by
  funext i
  rw [val_main_v317_apply, val_main_v27_apply, val_main_v316_apply, sum_batch, sum_batch, val_main_cst_10_apply,
    val_main_cst_82_apply, Finset.sum_congr rfl fun b _ => v26_real hP hT b, Finset.sum_congr rfl fun b _ => v315_real hP hT b,
    sum_coe, sum_coe]
  show (Ideal.ofBits .f32 0x00000000#32 + _) + (Ideal.ofBits .f32 0x00000000#32 + _) = (_ : EReal)
  rw [bits_zero, EReal.coe_zero, zero_add, zero_add, ← EReal.coe_add, Finset.sum_add_distrib]

end Cert.RefValue

end
-- ==== Proof.Finite.lean ====
/- What the precondition gives: both inputs hold real numbers. -/
module

public import Idealize.ShloMosaic.Lib.ValueIdx
public import Idealize.ShloMosaic.Lib.IdealHost
public import Idealize.ShloMosaic.Lib.ReduceAll
public import Idealize.ShloMosaic.Lib.Pipeline.Value
public import Idealize.ShloMosaic.PureOps.Ideal.Laws
public import proofs.«01_k».proof.Proof.Gen.Pre_finite
public import proofs.«01_k».proof.Proof.Lift

@[expose] public section

noncomputable section

namespace Cert.Finite

open Idealize.ShloMosaic Idealize.ShloMosaic.ValueIdx Cert.Pre_finite Cert.Pre_finite.Facts Cert.Lift

/-- The place of the one result of reducing over every axis. -/
def here : S_.Idx := fun a => a.elim0

/-- If every element compares below infinity in absolute value, every element is a real. -/
theorem real_of_all (x : FVec Ideal S8x1024x3 .f32)
    (h : Host.reduce IntOp.andi (cmpf .olt (Host.absf x) (broadcastInDim S8x1024x3 ![] bcast_S_S8x1024x3 (constant S_ .f32 0x7F800000#32)))
      (constantI S_ 1 1#1) reducesTo_S8x1024x3_S_d0_1_2 h_S_ here = 1#1) :
    ∃ X : Fin 8 → Fin 1024 → Fin 3 → ℝ, ∀ b i k, x (ix3 b i k) = (X b i k : EReal) := by
  have hx : ∀ b i k, ∃ r : ℝ, x (ix3 b i k) = (r : EReal) := fun b i k => by
    have : Subsingleton S_.Idx := ⟨fun p q => funext fun a => a.elim0⟩
    have e := Host.reduce_andi_all _ _ _ _ here h (ix3 b i k)
    rw [cmpf_apply, broadcastInDim_scalar_apply, constant_apply] at e
    have e' : Ideal.cmp .olt (max (x (ix3 b i k)) (-(x (ix3 b i k)))) (Ideal.ofBits .f32 0x7F800000#32) = 1#1 := e
    rw [bits_top] at e'
    refine exists_coe ?_
    by_contra hn
    simp [Ideal.cmp, hn] at e'
  choose X hX using hx
  exact ⟨X, hX⟩

/-- The precondition makes both inputs real. -/
theorem real_of_pre (x y : FVec Ideal S8x1024x3 .f32) (h : Cert.Pre_finite.fn x y = fun _ => 1#1) :
    (∃ X : Fin 8 → Fin 1024 → Fin 3 → ℝ, ∀ b i k, x (ix3 b i k) = (X b i k : EReal))
      ∧ ∃ Y : Fin 8 → Fin 1024 → Fin 3 → ℝ, ∀ b i k, y (ix3 b i k) = (Y b i k : EReal) := by
  have e := congrFun h here
  unfold Cert.Pre_finite.fn at e
  obtain ⟨h1, h2⟩ := IntOp.andi_eq_one.1 e
  exact ⟨real_of_all x h1, real_of_all y h2⟩

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.KernelRun
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Pre_finite.Gen.facts

/-- The reference leaves the total. -/
theorem reference_run (m : (ℓ : Loc Cert.ReferenceIdeal.nD Cert.ReferenceIdeal.τ Cert.ReferenceIdeal.sig) → Buf (Elt Ideal) ℓ)
    (ρ : Dev Cert.ReferenceIdeal.nD → PrngReg) (P T : Dev Cert.ReferenceIdeal.nD → Fin 8 → Fin 1024 → Fin 3 → ℝ)
    (hP : ∀ (c : Dev Cert.ReferenceIdeal.nD) b i k,
      m ((c.tc : Thread Cert.ReferenceIdeal.nD Cert.ReferenceIdeal.τ).loc Cert.ReferenceIdeal.main_arg1) (ix3 b i k : Cert.ReferenceIdeal.S8x1024x3.Idx) = (P c b i k : EReal))
    (hT : ∀ (c : Dev Cert.ReferenceIdeal.nD) b i k,
      m ((c.tc : Thread Cert.ReferenceIdeal.nD Cert.ReferenceIdeal.τ).loc Cert.ReferenceIdeal.main_arg0) (ix3 b i k : Cert.ReferenceIdeal.S8x1024x3.Idx) = (T c b i k : EReal)) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v317)
            = (fun _ => (Cert.KernelRun.total (P c) (T c) : EReal) : Buf (Elt Ideal) ((c.tc : Thread Cert.ReferenceIdeal.nD Cert.ReferenceIdeal.τ).loc Cert.ReferenceIdeal.main_v317))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run _ _ _).mono (fun _ h c => ⟨(h c).1.trans ((Cert.ReferenceIdeal.Read.val_main_v317_eq (StableHlo.launchContents m c)).trans
      (Cert.RefValue.v317_real (hP c) (hT c))), (h c).2⟩)
    (Cert.ReferenceIdeal.Value.run m ρ)

/-- The equality of the results over finite inputs: both programs leave the total. -/
theorem equal : Cert.algebraic_KernelIdeal_ReferenceIdeal_pre_finite := by
  intro m g m' g' hpre harg
  have hreal := fun c => Cert.Finite.real_of_pre _ _ (hpre c)
  choose T hT using fun c => (hreal c).1
  choose P hP using fun c => (hreal c).2
  refine ⟨fun c _ => (Cert.KernelRun.total (P c) (T c) : EReal), ?_, ?_⟩
  · exact (θ_run _ _ _).mono (fun _ h c => ⟨h.1 c, h.2 c⟩)
      (θ_run_and (Cert.KernelRun.run g P T hP hT) (Cert.KernelIdeal.Gen.unchanged m g))
  · exact reference_run m' g' P T (fun c b i k => (congrFun (harg c).2 _).trans (hP c b i k))
      (fun c b i k => (congrFun (harg c).1 _).trans (hT c b i k))

/-- The reference's frame: it writes neither argument, and it declares no semaphore. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

/-- All five claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ trivial,
    fun m ρ _ => reference_frame m ρ trivial,
    IdealRules.named_const.statement Cert.KernelIdeal.κ "inv_eps" .f32 0x41A00000#32 _ rfl,
    equal⟩

end Cert.Proof

end
